-- ==== Defs.lean ====
def Pre_Kernel [hPre_in_vocab : Cert.Pre_in_vocab.Facts] (m : (ℓ : Loc Cert.Kernel.nD Cert.Kernel.τ Cert.Kernel.sig) → Buf (Elt Bits) ℓ) : Prop :=
  ∀ c : Dev Cert.Kernel.nD,
    (Cert.Pre_in_vocab.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_in_vocab : Cert.Pre_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_vocab [hPre_in_vocab : Cert.Pre_in_vocab.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] [hPre_in_vocab : Cert.Pre_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_in_vocab [hReferenceIdeal : Cert.ReferenceIdeal.Facts] [hPre_in_vocab : Cert.Pre_in_vocab.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_vocab m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "inv_l" .f32 0x3CA3D70A#32 ((50⁻¹ : ℝ) : EReal)

def algebraic_KernelIdeal_ReferenceIdeal [hKernelIdeal : Cert.KernelIdeal.Facts] [hReferenceIdeal : Cert.ReferenceIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_in_vocab : Cert.Pre_in_vocab.Facts),
    quiescent_Kernel (hKernel := hKernel) (hPre_in_vocab := hPre_in_vocab)
    ∧ quiescent_KernelIdeal (hKernelIdeal := hKernelIdeal) (hPre_in_vocab := hPre_in_vocab)
    ∧ quiescent_ReferenceIdeal (hReferenceIdeal := hReferenceIdeal)
    ∧ quiescent_ReferenceIdeal_pre_in_vocab (hReferenceIdeal := hReferenceIdeal) (hPre_in_vocab := hPre_in_vocab)
    ∧ preserves_Kernel_KernelIdeal
    ∧ algebraic_KernelIdeal_ReferenceIdeal (hKernelIdeal := hKernelIdeal) (hReferenceIdeal := hReferenceIdeal) (hPre_in_vocab := hPre_in_vocab)
-- ==== Pre_in_vocab.lean ====
abbrev S4096x50 : Shape := ⟨2, ![4096, 50]⟩
abbrev S100000x128 : Shape := ⟨2, ![100000, 128]⟩
abbrev S1024x256 : Shape := ⟨2, ![1024, 256]⟩
abbrev S1024 : Shape := ⟨1, ![1024]⟩
abbrev S512x1024 : Shape := ⟨2, ![512, 1024]⟩
abbrev S512 : Shape := ⟨1, ![512]⟩
abbrev S2x512 : Shape := ⟨2, ![2, 512]⟩
abbrev S2 : Shape := ⟨1, ![2]⟩
abbrev S_ : Shape := ⟨0, ![]⟩

class Facts : Prop where
  bcast_S_S4096x50 : S_.BroadcastsInDim S4096x50 (![] : Fin 0 → Fin S4096x50.rank)
  reducesTo_S4096x50_S_d0_1 : S4096x50.ReducesTo [0, 1] S_
  h_S_ : 0 < S_.numel

variable [Facts]

def fn {F : FTy → Type} [FloatOps F] (main_arg0 : IVec S4096x50 32) (main_arg1 : IVec S4096x50 32) (main_arg2 : FVec F S100000x128 .f32) (main_arg3 : FVec F S1024x256 .f32) (main_arg4 : FVec F S1024 .f32) (main_arg5 : FVec F S512x1024 .f32) (main_arg6 : FVec F S512 .f32) (main_arg7 : FVec F S2x512 .f32) (main_arg8 : FVec F S2 .f32) : IVec S_ 1 :=
  let main_c : IVec S_ 32 := constantI S_ 32 0#32
  let main_v0 : IVec S4096x50 32 := broadcastInDim S4096x50 ![] bcast_S_S4096x50 main_c
  let main_v1 : IVec S4096x50 1 := cmpi .sge main_arg0 main_v0
  let main_c_0 : IVec S_ 32 := constantI S_ 32 100000#32
  let main_v2 : IVec S4096x50 32 := broadcastInDim S4096x50 ![] bcast_S_S4096x50 main_c_0
  let main_v3 : IVec S4096x50 1 := cmpi .slt main_arg0 main_v2
  let main_v4 : IVec S4096x50 1 := andi main_v1 main_v3
  let main_c_1 : IVec S_ 1 := constantI S_ 1 1#1
  let main_v5 : IVec S_ 1 := (fun x v => Host.reduce IntOp.andi x v reducesTo_S4096x50_S_d0_1 h_S_) main_v4 main_c_1
  let main_c_2 : IVec S_ 32 := constantI S_ 32 0#32
  let main_v6 : IVec S4096x50 32 := broadcastInDim S4096x50 ![] bcast_S_S4096x50 main_c_2
  let main_v7 : IVec S4096x50 1 := cmpi .sge main_arg1 main_v6
  let main_c_3 : IVec S_ 32 := constantI S_ 32 100000#32
  let main_v8 : IVec S4096x50 32 := broadcastInDim S4096x50 ![] bcast_S_S4096x50 main_c_3
  let main_v9 : IVec S4096x50 1 := cmpi .slt main_arg1 main_v8
  let main_v10 : IVec S4096x50 1 := andi main_v7 main_v9
  let main_c_4 : IVec S_ 1 := constantI S_ 1 1#1
  let main_v11 : IVec S_ 1 := (fun x v => Host.reduce IntOp.andi x v reducesTo_S4096x50_S_d0_1 h_S_) main_v10 main_c_4
  let main_v12 : IVec S_ 1 := andi main_v5 main_v11
  main_v12
-- ==== Kernel.lean ====
abbrev S4096x50 : Shape := ⟨2, ![4096, 50]⟩
abbrev S100000x128 : Shape := ⟨2, ![100000, 128]⟩
abbrev S1024x256 : Shape := ⟨2, ![1024, 256]⟩
abbrev S1024 : Shape := ⟨1, ![1024]⟩
abbrev S512x1024 : Shape := ⟨2, ![512, 1024]⟩
abbrev S512 : Shape := ⟨1, ![512]⟩
abbrev S2x512 : Shape := ⟨2, ![2, 512]⟩
abbrev S2 : Shape := ⟨1, ![2]⟩
abbrev S204800 : Shape := ⟨1, ![204800]⟩
abbrev S409600 : Shape := ⟨1, ![409600]⟩
abbrev S32x128x100 : Shape := ⟨3, ![32, 128, 100]⟩
abbrev S_ : Shape := ⟨0, ![]⟩
abbrev S32x128x104 : Shape := ⟨3, ![32, 128, 104]⟩
abbrev S8192x128 : Shape := ⟨2, ![8192, 128]⟩
abbrev S128x104 : Shape := ⟨2, ![128, 104]⟩
abbrev S104x128 : Shape := ⟨2, ![104, 128]⟩
abbrev S256x128 : Shape := ⟨2, ![256, 128]⟩
abbrev S1x128x104 : Shape := ⟨3, ![1, 128, 104]⟩
abbrev S1x104 : Shape := ⟨2, ![1, 104]⟩
abbrev S104 : Shape := ⟨1, ![104]⟩
abbrev S1x16 : Shape := ⟨2, ![1, 16]⟩
abbrev S16 : Shape := ⟨1, ![16]⟩
abbrev S1024x128 : Shape := ⟨2, ![1024, 128]⟩
abbrev S128x1024 : Shape := ⟨2, ![128, 1024]⟩
abbrev S1024x512 : Shape := ⟨2, ![1024, 512]⟩
abbrev S512x128 : Shape := ⟨2, ![512, 128]⟩
abbrev S512x2 : Shape := ⟨2, ![512, 2]⟩
abbrev S1 : Shape := ⟨1, ![1]⟩
abbrev S1x128 : Shape := ⟨2, ![1, 128]⟩
abbrev S1x1024 : Shape := ⟨2, ![1, 1024]⟩
abbrev S1x512 : Shape := ⟨2, ![1, 512]⟩
abbrev S4096x128 : Shape := ⟨2, ![4096, 128]⟩
abbrev S512x512 : Shape := ⟨2, ![512, 512]⟩
abbrev S4096x2 : Shape := ⟨2, ![4096, 2]⟩

abbrev nBuf : Table → Nat
  | .hbm => 40
  | .local .tc .vmem => 13
  | .local .scVector .vmem => 4
  | _ => 0

abbrev bufTy : (tb : Table) → Fin (nBuf tb) → BufTy
  | .hbm, ⟨0, _⟩ => ⟨S4096x50, .i32⟩
  | .hbm, ⟨1, _⟩ => ⟨S4096x50, .i32⟩
  | .hbm, ⟨2, _⟩ => ⟨S100000x128, .f32⟩
  | .hbm, ⟨3, _⟩ => ⟨S1024x256, .f32⟩
  | .hbm, ⟨4, _⟩ => ⟨S1024, .f32⟩
  | .hbm, ⟨5, _⟩ => ⟨S512x1024, .f32⟩
  | .hbm, ⟨6, _⟩ => ⟨S512, .f32⟩
  | .hbm, ⟨7, _⟩ => ⟨S2x512, .f32⟩
  | .hbm, ⟨8, _⟩ => ⟨S2, .f32⟩
  | .hbm, ⟨9, _⟩ => ⟨S204800, .i32⟩
  | .hbm, ⟨10, _⟩ => ⟨S204800, .i32⟩
  | .hbm, ⟨11, _⟩ => ⟨S409600, .i32⟩
  | .hbm, ⟨12, _⟩ => ⟨S32x128x100, .i32⟩
  | .hbm, ⟨13, _⟩ => ⟨S_, .i32⟩
  | .hbm, ⟨14, _⟩ => ⟨S_, .i32⟩
  | .hbm, ⟨15, _⟩ => ⟨S32x128x104, .i32⟩
  | .hbm, ⟨16, _⟩ => ⟨S8192x128, .f32⟩
  | .hbm, ⟨17, _⟩ => ⟨S1024x128, .f32⟩
  | .hbm, ⟨18, _⟩ => ⟨S128x1024, .f32⟩
  | .hbm, ⟨19, _⟩ => ⟨S1024x128, .f32⟩
  | .hbm, ⟨20, _⟩ => ⟨S128x1024, .f32⟩
  | .hbm, ⟨21, _⟩ => ⟨S1024x512, .f32⟩
  | .hbm, ⟨22, _⟩ => ⟨S_, .f32⟩
  | .hbm, ⟨23, _⟩ => ⟨S512x128, .f32⟩
  | .hbm, ⟨24, _⟩ => ⟨S512x2, .f32⟩
  | .hbm, ⟨25, _⟩ => ⟨S_, .i32⟩
  | .hbm, ⟨26, _⟩ => ⟨S1, .i32⟩
  | .hbm, ⟨27, _⟩ => ⟨S512x128, .f32⟩
  | .hbm, ⟨28, _⟩ => ⟨S_, .f32⟩
  | .hbm, ⟨29, _⟩ => ⟨S1x128, .f32⟩
  | .hbm, ⟨30, _⟩ => ⟨S_, .i32⟩
  | .hbm, ⟨31, _⟩ => ⟨S1, .i32⟩
  | .hbm, ⟨32, _⟩ => ⟨S_, .i32⟩
  | .hbm, ⟨33, _⟩ => ⟨S1, .i32⟩
  | .hbm, ⟨34, _⟩ => ⟨S2, .i32⟩
  | .hbm, ⟨35, _⟩ => ⟨S1x128, .f32⟩
  | .hbm, ⟨36, _⟩ => ⟨S1x1024, .f32⟩
  | .hbm, ⟨37, _⟩ => ⟨S1x512, .f32⟩
  | .hbm, ⟨38, _⟩ => ⟨S4096x128, .f32⟩
  | .hbm, ⟨39, _⟩ => ⟨S4096x2, .f32⟩
  | .local .tc .vmem, ⟨0, _⟩ => ⟨S512x128, .f32⟩
  | .local .tc .vmem, ⟨1, _⟩ => ⟨S512x128, .f32⟩
  | .local .tc .vmem, ⟨2, _⟩ => ⟨S512x128, .f32⟩
  | .local .tc .vmem, ⟨3, _⟩ => ⟨S512x128, .f32⟩
  | .local .tc .vmem, ⟨4, _⟩ => ⟨S128x1024, .f32⟩
  | .local .tc .vmem, ⟨5, _⟩ => ⟨S128x1024, .f32⟩
  | .local .tc .vmem, ⟨6, _⟩ => ⟨S1x1024, .f32⟩
  | .local .tc .vmem, ⟨7, _⟩ => ⟨S1024x512, .f32⟩
  | .local .tc .vmem, ⟨8, _⟩ => ⟨S1x512, .f32⟩
  | .local .tc .vmem, ⟨9, _⟩ => ⟨S512x128, .f32⟩
  | .local .tc .vmem, ⟨10, _⟩ => ⟨S1x128, .f32⟩
  | .local .tc .vmem, ⟨11, _⟩ => ⟨S512x128, .f32⟩
  | .local .tc .vmem, ⟨12, _⟩ => ⟨S512x128, .f32⟩
  | .local .scVector .vmem, ⟨0, _⟩ => ⟨S128x104, .i32⟩
  | .local .scVector .vmem, ⟨1, _⟩ => ⟨S104x128, .f32⟩
  | .local .scVector .vmem, ⟨2, _⟩ => ⟨S104x128, .f32⟩
  | .local .scVector .vmem, ⟨3, _⟩ => ⟨S256x128, .f32⟩
  | _, _ => ⟨S4096x50, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 17 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTables nBuf rfl bufTy 4 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_c_0 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_c_2 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_arg2_scv : Ref sig .scVector := ⟨.hbm, 2, rfl⟩
abbrev main_v4_scv : Ref sig .scVector := ⟨.hbm, 15, rfl⟩
abbrev main_v5_scv : Ref sig .scVector := ⟨.hbm, 16, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc1_stg6_0 : Ref sig .tc := ⟨.vmem, 8, rfl⟩
abbrev cc1_stg7_0 : Ref sig .tc := ⟨.vmem, 9, rfl⟩
abbrev cc1_stg8_0 : Ref sig .tc := ⟨.vmem, 10, rfl⟩
abbrev cc1_stg9_0 : Ref sig .tc := ⟨.vmem, 11, rfl⟩
abbrev cc1_stg9_1 : Ref sig .tc := ⟨.vmem, 12, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem8_0 : DmaSem sig := 14
abbrev cc1_sem9_0 : DmaSem sig := 15
abbrev cc1_sem9_1 : DmaSem sig := 16
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_6_r0 : BitVec 32 := 0#32
  let c0_i32_7_r0 : BitVec 32 := 0#32
  ![v1.toNat, 0, 0]
@[reducible] def k0_t1_loop : Scf.Loop 32 :=
  let c0_i32_4 : BitVec 32 := 0#32
  let c64_i32 : BitVec 32 := 64#32
  let v5 : BitVec 32 := Scalar.addi c0_i32_4 c64_i32
  let c1_i32 : BitVec 32 := 1#32
  ⟨c0_i32_4, v5, c1_i32⟩
def k0_off2 (k0_t1 : Fin k0_t1_loop.trips) : Fin 2 → Nat :=
  let c2_i32_6 : BitVec 32 := 2#32
  let c0_i32_4 : BitVec 32 := 0#32
  let c1_i32 : BitVec 32 := 1#32
  let arg11 : BitVec 32 := Scf.iv c0_i32_4 c1_i32 k0_t1
  let v7 : BitVec 32 := Scalar.muli c2_i32_6 arg11
  let c1_i32_7 : BitVec 32 := 1#32
  let v8 : BitVec 32 := Scalar.addi v7 c1_i32_7
  let c0_i32_8 : BitVec 32 := 0#32
  ![v8.toNat, 0]
def k0_off3 (k0_t1 : Fin k0_t1_loop.trips) : Fin 2 → Nat :=
  let c2_i32_6 : BitVec 32 := 2#32
  let c0_i32_4 : BitVec 32 := 0#32
  let c1_i32 : BitVec 32 := 1#32
  let arg11 : BitVec 32 := Scf.iv c0_i32_4 c1_i32 k0_t1
  let v7 : BitVec 32 := Scalar.muli c2_i32_6 arg11
  let c0_i32_11 : BitVec 32 := 0#32
  ![v7.toNat, 0]
def k0_off4 (k0_t1 : Fin k0_t1_loop.trips) (c0_i32_760 : BitVec 32) : Fin 2 → Nat :=
  let c2_i32_6 : BitVec 32 := 2#32
  let c0_i32_4 : BitVec 32 := 0#32
  let c1_i32 : BitVec 32 := 1#32
  let arg11 : BitVec 32 := Scf.iv c0_i32_4 c1_i32 k0_t1
  let v7 : BitVec 32 := Scalar.muli c2_i32_6 arg11
  let c2_i32_14 : BitVec 32 := 2#32
  let v15 : BitVec 32 := Scalar.muli v7 c2_i32_14
  let v1608 : BitVec 32 := Scalar.addi v15 c0_i32_760
  let v1609 : Index := Scalar.indexCast v1608
  let c0_761 : Index := 0#32
  ![v1609.toNat, 0]
def k0_off5 (k0_t1 : Fin k0_t1_loop.trips) (c0_i32_762 : BitVec 32) : Fin 2 → Nat :=
  let c2_i32_6 : BitVec 32 := 2#32
  let c0_i32_4 : BitVec 32 := 0#32
  let c1_i32 : BitVec 32 := 1#32
  let arg11 : BitVec 32 := Scf.iv c0_i32_4 c1_i32 k0_t1
  let v7 : BitVec 32 := Scalar.muli c2_i32_6 arg11
  let c2_i32_14 : BitVec 32 := 2#32
  let v15 : BitVec 32 := Scalar.muli v7 c2_i32_14
  let v1613 : BitVec 32 := Scalar.addi v15 c0_i32_762
  let v1614 : Index := Scalar.indexCast v1613
  let c16_763 : Index := 16#32
  ![v1614.toNat, 16]
def k0_off6 (k0_t1 : Fin k0_t1_loop.trips) (c0_i32_764 : BitVec 32) : Fin 2 → Nat :=
  let c2_i32_6 : BitVec 32 := 2#32
  let c0_i32_4 : BitVec 32 := 0#32
  let c1_i32 : BitVec 32 := 1#32
  let arg11 : BitVec 32 := Scf.iv c0_i32_4 c1_i32 k0_t1
  let v7 : BitVec 32 := Scalar.muli c2_i32_6 arg11
  let c2_i32_14 : BitVec 32 := 2#32
  let v15 : BitVec 32 := Scalar.muli v7 c2_i32_14
  let v1618 : BitVec 32 := Scalar.addi v15 c0_i32_764
  let v1619 : Index := Scalar.indexCast v1618
  let c32_765 : Index := 32#32
  ![v1619.toNat, 32]
def k0_off7 (k0_t1 : Fin k0_t1_loop.trips) (c0_i32_766 : BitVec 32) : Fin 2 → Nat :=
  let c2_i32_6 : BitVec 32 := 2#32
  let c0_i32_4 : BitVec 32 := 0#32
  let c1_i32 : BitVec 32 := 1#32
  let arg11 : BitVec 32 := Scf.iv c0_i32_4 c1_i32 k0_t1
  let v7 : BitVec 32 := Scalar.muli c2_i32_6 arg11
  let c2_i32_14 : BitVec 32 := 2#32
  let v15 : BitVec 32 := Scalar.muli v7 c2_i32_14
  let v1623 : BitVec 32 := Scalar.addi v15 c0_i32_766
  let v1624 : Index := Scalar.indexCast v1623
  let c48_767 : Index := 48#32
  ![v1624.toNat, 48]
def k0_off8 (k0_t1 : Fin k0_t1_loop.trips) (c0_i32_768 : BitVec 32) : Fin 2 → Nat :=
  let c2_i32_6 : BitVec 32 := 2#32
  let c0_i32_4 : BitVec 32 := 0#32
  let c1_i32 : BitVec 32 := 1#32
  let arg11 : BitVec 32 := Scf.iv c0_i32_4 c1_i32 k0_t1
  let v7 : BitVec 32 := Scalar.muli c2_i32_6 arg11
  let c2_i32_14 : BitVec 32 := 2#32
  let v15 : BitVec 32 := Scalar.muli v7 c2_i32_14
  let v1628 : BitVec 32 := Scalar.addi v15 c0_i32_768
  let v1629 : Index := Scalar.indexCast v1628
  let c64_769 : Index := 64#32
  ![v1629.toNat, 64]
def k0_off9 (k0_t1 : Fin k0_t1_loop.trips) (c0_i32_770 : BitVec 32) : Fin 2 → Nat :=
  let c2_i32_6 : BitVec 32 := 2#32
  let c0_i32_4 : BitVec 32 := 0#32
  let c1_i32 : BitVec 32 := 1#32
  let arg11 : BitVec 32 := Scf.iv c0_i32_4 c1_i32 k0_t1
  let v7 : BitVec 32 := Scalar.muli c2_i32_6 arg11
  let c2_i32_14 : BitVec 32 := 2#32
  let v15 : BitVec 32 := Scalar.muli v7 c2_i32_14
  let v1633 : BitVec 32 := Scalar.addi v15 c0_i32_770
  let v1634 : Index := Scalar.indexCast v1633
  let c80_771 : Index := 80#32
  ![v1634.toNat, 80]
def k0_off10 (k0_t1 : Fin k0_t1_loop.trips) (c0_i32_772 : BitVec 32) : Fin 2 → Nat :=
  let c2_i32_6 : BitVec 32 := 2#32
  let c0_i32_4 : BitVec 32 := 0#32
  let c1_i32 : BitVec 32 := 1#32
  let arg11 : BitVec 32 := Scf.iv c0_i32_4 c1_i32 k0_t1
  let v7 : BitVec 32 := Scalar.muli c2_i32_6 arg11
  let c2_i32_14 : BitVec 32 := 2#32
  let v15 : BitVec 32 := Scalar.muli v7 c2_i32_14
  let v1638 : BitVec 32 := Scalar.addi v15 c0_i32_772
  let v1639 : Index := Scalar.indexCast v1638
  let c96_773 : Index := 96#32
  ![v1639.toNat, 96]
def k0_off11 (k0_t1 : Fin k0_t1_loop.trips) (c0_i32_774 : BitVec 32) : Fin 2 → Nat :=
  let c2_i32_6 : BitVec 32 := 2#32
  let c0_i32_4 : BitVec 32 := 0#32
  let c1_i32 : BitVec 32 := 1#32
  let arg11 : BitVec 32 := Scf.iv c0_i32_4 c1_i32 k0_t1
  let v7 : BitVec 32 := Scalar.muli c2_i32_6 arg11
  let c2_i32_14 : BitVec 32 := 2#32
  let v15 : BitVec 32 := Scalar.muli v7 c2_i32_14
  let v1643 : BitVec 32 := Scalar.addi v15 c0_i32_774
  let v1644 : Index := Scalar.indexCast v1643
  let c112_775 : Index := 112#32
  ![v1644.toNat, 112]
def k0_cond1 (k0_t1 : Fin k0_t1_loop.trips) : BitVec 1 :=
  let c2_i32_6 : BitVec 32 := 2#32
  let c0_i32_4 : BitVec 32 := 0#32
  let c1_i32 : BitVec 32 := 1#32
  let arg11 : BitVec 32 := Scf.iv c0_i32_4 c1_i32 k0_t1
  let v7 : BitVec 32 := Scalar.muli c2_i32_6 arg11
  let c2_i32_1543 : BitVec 32 := 2#32
  let v3280 : BitVec 32 := Scalar.addi v7 c2_i32_1543
  let c128_i32 : BitVec 32 := 128#32
  let v3281 : BitVec 1 := Scalar.cmpi .slt v3280 c128_i32
  let v3282 : BitVec 32 := Scalar.extui v3281
  let c0_i32_1544 : BitVec 32 := 0#32
  let v3283 : BitVec 1 := Scalar.cmpi .ne v3282 c0_i32_1544
  v3283

def k0_off12 (k0_t1 : Fin k0_t1_loop.trips) : Fin 2 → Nat :=
  let c2_i32_6 : BitVec 32 := 2#32
  let c0_i32_4 : BitVec 32 := 0#32
  let c1_i32 : BitVec 32 := 1#32
  let arg11 : BitVec 32 := Scf.iv c0_i32_4 c1_i32 k0_t1
  let v7 : BitVec 32 := Scalar.muli c2_i32_6 arg11
  let c2_i32_3183 : BitVec 32 := 2#32
  let v6554 : BitVec 32 := Scalar.addi v7 c2_i32_3183
  let c0_i32_3184 : BitVec 32 := 0#32
  ![v6554.toNat, 0]
def k0_off13 (k0_t1 : Fin k0_t1_loop.trips) (c0_i32_2351 : BitVec 32) : Fin 2 → Nat :=
  let c2_i32_6 : BitVec 32 := 2#32
  let c0_i32_4 : BitVec 32 := 0#32
  let c1_i32 : BitVec 32 := 1#32
  let arg11 : BitVec 32 := Scf.iv c0_i32_4 c1_i32 k0_t1
  let v7 : BitVec 32 := Scalar.muli c2_i32_6 arg11
  let c1_i32_1549 : BitVec 32 := 1#32
  let v3288 : BitVec 32 := Scalar.addi v7 c1_i32_1549
  let c2_i32_1550 : BitVec 32 := 2#32
  let v3289 : BitVec 32 := Scalar.muli v3288 c2_i32_1550
  let v4882 : BitVec 32 := Scalar.addi v3289 c0_i32_2351
  let v4883 : Index := Scalar.indexCast v4882
  let c0_2352 : Index := 0#32
  ![v4883.toNat, 0]
def k0_off14 (k0_t1 : Fin k0_t1_loop.trips) (c0_i32_2353 : BitVec 32) : Fin 2 → Nat :=
  let c2_i32_6 : BitVec 32 := 2#32
  let c0_i32_4 : BitVec 32 := 0#32
  let c1_i32 : BitVec 32 := 1#32
  let arg11 : BitVec 32 := Scf.iv c0_i32_4 c1_i32 k0_t1
  let v7 : BitVec 32 := Scalar.muli c2_i32_6 arg11
  let c1_i32_1549 : BitVec 32 := 1#32
  let v3288 : BitVec 32 := Scalar.addi v7 c1_i32_1549
  let c2_i32_1550 : BitVec 32 := 2#32
  let v3289 : BitVec 32 := Scalar.muli v3288 c2_i32_1550
  let v4887 : BitVec 32 := Scalar.addi v3289 c0_i32_2353
  let v4888 : Index := Scalar.indexCast v4887
  let c16_2354 : Index := 16#32
  ![v4888.toNat, 16]
def k0_off15 (k0_t1 : Fin k0_t1_loop.trips) (c0_i32_2355 : BitVec 32) : Fin 2 → Nat :=
  let c2_i32_6 : BitVec 32 := 2#32
  let c0_i32_4 : BitVec 32 := 0#32
  let c1_i32 : BitVec 32 := 1#32
  let arg11 : BitVec 32 := Scf.iv c0_i32_4 c1_i32 k0_t1
  let v7 : BitVec 32 := Scalar.muli c2_i32_6 arg11
  let c1_i32_1549 : BitVec 32 := 1#32
  let v3288 : BitVec 32 := Scalar.addi v7 c1_i32_1549
  let c2_i32_1550 : BitVec 32 := 2#32
  let v3289 : BitVec 32 := Scalar.muli v3288 c2_i32_1550
  let v4892 : BitVec 32 := Scalar.addi v3289 c0_i32_2355
  let v4893 : Index := Scalar.indexCast v4892
  let c32_2356 : Index := 32#32
  ![v4893.toNat, 32]
def k0_off16 (k0_t1 : Fin k0_t1_loop.trips) (c0_i32_2357 : BitVec 32) : Fin 2 → Nat :=
  let c2_i32_6 : BitVec 32 := 2#32
  let c0_i32_4 : BitVec 32 := 0#32
  let c1_i32 : BitVec 32 := 1#32
  let arg11 : BitVec 32 := Scf.iv c0_i32_4 c1_i32 k0_t1
  let v7 : BitVec 32 := Scalar.muli c2_i32_6 arg11
  let c1_i32_1549 : BitVec 32 := 1#32
  let v3288 : BitVec 32 := Scalar.addi v7 c1_i32_1549
  let c2_i32_1550 : BitVec 32 := 2#32
  let v3289 : BitVec 32 := Scalar.muli v3288 c2_i32_1550
  let v4897 : BitVec 32 := Scalar.addi v3289 c0_i32_2357
  let v4898 : Index := Scalar.indexCast v4897
  let c48_2358 : Index := 48#32
  ![v4898.toNat, 48]
def k0_off17 (k0_t1 : Fin k0_t1_loop.trips) (c0_i32_2359 : BitVec 32) : Fin 2 → Nat :=
  let c2_i32_6 : BitVec 32 := 2#32
  let c0_i32_4 : BitVec 32 := 0#32
  let c1_i32 : BitVec 32 := 1#32
  let arg11 : BitVec 32 := Scf.iv c0_i32_4 c1_i32 k0_t1
  let v7 : BitVec 32 := Scalar.muli c2_i32_6 arg11
  let c1_i32_1549 : BitVec 32 := 1#32
  let v3288 : BitVec 32 := Scalar.addi v7 c1_i32_1549
  let c2_i32_1550 : BitVec 32 := 2#32
  let v3289 : BitVec 32 := Scalar.muli v3288 c2_i32_1550
  let v4902 : BitVec 32 := Scalar.addi v3289 c0_i32_2359
  let v4903 : Index := Scalar.indexCast v4902
  let c64_2360 : Index := 64#32
  ![v4903.toNat, 64]
def k0_off18 (k0_t1 : Fin k0_t1_loop.trips) (c0_i32_2361 : BitVec 32) : Fin 2 → Nat :=
  let c2_i32_6 : BitVec 32 := 2#32
  let c0_i32_4 : BitVec 32 := 0#32
  let c1_i32 : BitVec 32 := 1#32
  let arg11 : BitVec 32 := Scf.iv c0_i32_4 c1_i32 k0_t1
  let v7 : BitVec 32 := Scalar.muli c2_i32_6 arg11
  let c1_i32_1549 : BitVec 32 := 1#32
  let v3288 : BitVec 32 := Scalar.addi v7 c1_i32_1549
  let c2_i32_1550 : BitVec 32 := 2#32
  let v3289 : BitVec 32 := Scalar.muli v3288 c2_i32_1550
  let v4907 : BitVec 32 := Scalar.addi v3289 c0_i32_2361
  let v4908 : Index := Scalar.indexCast v4907
  let c80_2362 : Index := 80#32
  ![v4908.toNat, 80]
def k0_off19 (k0_t1 : Fin k0_t1_loop.trips) (c0_i32_2363 : BitVec 32) : Fin 2 → Nat :=
  let c2_i32_6 : BitVec 32 := 2#32
  let c0_i32_4 : BitVec 32 := 0#32
  let c1_i32 : BitVec 32 := 1#32
  let arg11 : BitVec 32 := Scf.iv c0_i32_4 c1_i32 k0_t1
  let v7 : BitVec 32 := Scalar.muli c2_i32_6 arg11
  let c1_i32_1549 : BitVec 32 := 1#32
  let v3288 : BitVec 32 := Scalar.addi v7 c1_i32_1549
  let c2_i32_1550 : BitVec 32 := 2#32
  let v3289 : BitVec 32 := Scalar.muli v3288 c2_i32_1550
  let v4912 : BitVec 32 := Scalar.addi v3289 c0_i32_2363
  let v4913 : Index := Scalar.indexCast v4912
  let c96_2364 : Index := 96#32
  ![v4913.toNat, 96]
def k0_off20 (k0_t1 : Fin k0_t1_loop.trips) (c0_i32_2365 : BitVec 32) : Fin 2 → Nat :=
  let c2_i32_6 : BitVec 32 := 2#32
  let c0_i32_4 : BitVec 32 := 0#32
  let c1_i32 : BitVec 32 := 1#32
  let arg11 : BitVec 32 := Scf.iv c0_i32_4 c1_i32 k0_t1
  let v7 : BitVec 32 := Scalar.muli c2_i32_6 arg11
  let c1_i32_1549 : BitVec 32 := 1#32
  let v3288 : BitVec 32 := Scalar.addi v7 c1_i32_1549
  let c2_i32_1550 : BitVec 32 := 2#32
  let v3289 : BitVec 32 := Scalar.muli v3288 c2_i32_1550
  let v4917 : BitVec 32 := Scalar.addi v3289 c0_i32_2365
  let v4918 : Index := Scalar.indexCast v4917
  let c112_2366 : Index := 112#32
  ![v4918.toNat, 112]
def k0_off21 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v6 : BitVec 32 := Scalar.muli v1 c256_i32
  let c0_i32_6_r1 : BitVec 32 := 0#32
  ![v6.toNat, 0]
abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S512x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S512x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "inv_l" => some ((50⁻¹ : ℝ) : EReal)
  | _ => none
-- ==== ReferenceIdeal.lean ====
abbrev S4096x50 : Shape := ⟨2, ![4096, 50]⟩
abbrev S100000x128 : Shape := ⟨2, ![100000, 128]⟩
abbrev S1024x256 : Shape := ⟨2, ![1024, 256]⟩
abbrev S1024 : Shape := ⟨1, ![1024]⟩
abbrev S512x1024 : Shape := ⟨2, ![512, 1024]⟩
abbrev S512 : Shape := ⟨1, ![512]⟩
abbrev S2x512 : Shape := ⟨2, ![2, 512]⟩
abbrev S2 : Shape := ⟨1, ![2]⟩
abbrev S_ : Shape := ⟨0, ![]⟩
abbrev S4096x50x1 : Shape := ⟨3, ![4096, 50, 1]⟩
abbrev S1 : Shape := ⟨1, ![1]⟩
abbrev S1x1x1 : Shape := ⟨3, ![1, 1, 1]⟩
abbrev S4096x50x128 : Shape := ⟨3, ![4096, 50, 128]⟩
abbrev S4096x128 : Shape := ⟨2, ![4096, 128]⟩
abbrev S4096x256 : Shape := ⟨2, ![4096, 256]⟩
abbrev S256x1024 : Shape := ⟨2, ![256, 1024]⟩
abbrev S4096x1024 : Shape := ⟨2, ![4096, 1024]⟩
abbrev S1x1024 : Shape := ⟨2, ![1, 1024]⟩
abbrev S1024x512 : Shape := ⟨2, ![1024, 512]⟩
abbrev S4096x512 : Shape := ⟨2, ![4096, 512]⟩
abbrev S1x512 : Shape := ⟨2, ![1, 512]⟩
abbrev S512x2 : Shape := ⟨2, ![512, 2]⟩
abbrev S4096x2 : Shape := ⟨2, ![4096, 2]⟩
abbrev S1x2 : Shape := ⟨2, ![1, 2]⟩

abbrev nBuf : Space → Nat
  | .hbm => 87
  | .vmem => 0
  | .smem => 0
  | _ => 0

abbrev bufTy : (tb : Table) → Fin (tcTables nBuf tb) → BufTy
  | .hbm, ⟨0, _⟩ => ⟨S4096x50, .i32⟩
  | .hbm, ⟨1, _⟩ => ⟨S4096x50, .i32⟩
  | .hbm, ⟨2, _⟩ => ⟨S100000x128, .f32⟩
  | .hbm, ⟨3, _⟩ => ⟨S1024x256, .f32⟩
  | .hbm, ⟨4, _⟩ => ⟨S1024, .f32⟩
  | .hbm, ⟨5, _⟩ => ⟨S512x1024, .f32⟩
  | .hbm, ⟨6, _⟩ => ⟨S512, .f32⟩
  | .hbm, ⟨7, _⟩ => ⟨S2x512, .f32⟩
  | .hbm, ⟨8, _⟩ => ⟨S2, .f32⟩
  | .hbm, ⟨9, _⟩ => ⟨S_, .i32⟩
  | .hbm, ⟨10, _⟩ => ⟨S4096x50, .i32⟩
  | .hbm, ⟨11, _⟩ => ⟨S4096x50, .i1⟩
  | .hbm, ⟨12, _⟩ => ⟨S_, .i32⟩
  | .hbm, ⟨13, _⟩ => ⟨S4096x50, .i32⟩
  | .hbm, ⟨14, _⟩ => ⟨S4096x50, .i32⟩
  | .hbm, ⟨15, _⟩ => ⟨S4096x50, .i32⟩
  | .hbm, ⟨16, _⟩ => ⟨S4096x50x1, .i32⟩
  | .hbm, ⟨17, _⟩ => ⟨S1, .i32⟩
  | .hbm, ⟨18, _⟩ => ⟨S_, .i32⟩
  | .hbm, ⟨19, _⟩ => ⟨S4096x50x1, .i32⟩
  | .hbm, ⟨20, _⟩ => ⟨S4096x50x1, .i1⟩
  | .hbm, ⟨21, _⟩ => ⟨S1x1x1, .i32⟩
  | .hbm, ⟨22, _⟩ => ⟨S4096x50x1, .i32⟩
  | .hbm, ⟨23, _⟩ => ⟨S4096x50x1, .i1⟩
  | .hbm, ⟨24, _⟩ => ⟨S4096x50x1, .i1⟩
  | .hbm, ⟨25, _⟩ => ⟨S_, .i1⟩
  | .hbm, ⟨26, _⟩ => ⟨S4096x50, .i1⟩
  | .hbm, ⟨27, _⟩ => ⟨S4096x50x128, .f32⟩
  | .hbm, ⟨28, _⟩ => ⟨S4096x50x128, .i1⟩
  | .hbm, ⟨29, _⟩ => ⟨S_, .f32⟩
  | .hbm, ⟨30, _⟩ => ⟨S4096x50x128, .f32⟩
  | .hbm, ⟨31, _⟩ => ⟨S4096x50x128, .f32⟩
  | .hbm, ⟨32, _⟩ => ⟨S_, .f32⟩
  | .hbm, ⟨33, _⟩ => ⟨S4096x128, .f32⟩
  | .hbm, ⟨34, _⟩ => ⟨S_, .f32⟩
  | .hbm, ⟨35, _⟩ => ⟨S4096x128, .f32⟩
  | .hbm, ⟨36, _⟩ => ⟨S4096x128, .f32⟩
  | .hbm, ⟨37, _⟩ => ⟨S_, .i32⟩
  | .hbm, ⟨38, _⟩ => ⟨S4096x50, .i32⟩
  | .hbm, ⟨39, _⟩ => ⟨S4096x50, .i1⟩
  | .hbm, ⟨40, _⟩ => ⟨S_, .i32⟩
  | .hbm, ⟨41, _⟩ => ⟨S4096x50, .i32⟩
  | .hbm, ⟨42, _⟩ => ⟨S4096x50, .i32⟩
  | .hbm, ⟨43, _⟩ => ⟨S4096x50, .i32⟩
  | .hbm, ⟨44, _⟩ => ⟨S4096x50x1, .i32⟩
  | .hbm, ⟨45, _⟩ => ⟨S1, .i32⟩
  | .hbm, ⟨46, _⟩ => ⟨S_, .i32⟩
  | .hbm, ⟨47, _⟩ => ⟨S4096x50x1, .i32⟩
  | .hbm, ⟨48, _⟩ => ⟨S4096x50x1, .i1⟩
  | .hbm, ⟨49, _⟩ => ⟨S1x1x1, .i32⟩
  | .hbm, ⟨50, _⟩ => ⟨S4096x50x1, .i32⟩
  | .hbm, ⟨51, _⟩ => ⟨S4096x50x1, .i1⟩
  | .hbm, ⟨52, _⟩ => ⟨S4096x50x1, .i1⟩
  | .hbm, ⟨53, _⟩ => ⟨S_, .i1⟩
  | .hbm, ⟨54, _⟩ => ⟨S4096x50, .i1⟩
  | .hbm, ⟨55, _⟩ => ⟨S4096x50x128, .f32⟩
  | .hbm, ⟨56, _⟩ => ⟨S4096x50x128, .i1⟩
  | .hbm, ⟨57, _⟩ => ⟨S_, .f32⟩
  | .hbm, ⟨58, _⟩ => ⟨S4096x50x128, .f32⟩
  | .hbm, ⟨59, _⟩ => ⟨S4096x50x128, .f32⟩
  | .hbm, ⟨60, _⟩ => ⟨S_, .f32⟩
  | .hbm, ⟨61, _⟩ => ⟨S4096x128, .f32⟩
  | .hbm, ⟨62, _⟩ => ⟨S_, .f32⟩
  | .hbm, ⟨63, _⟩ => ⟨S4096x128, .f32⟩
  | .hbm, ⟨64, _⟩ => ⟨S4096x128, .f32⟩
  | .hbm, ⟨65, _⟩ => ⟨S4096x256, .f32⟩
  | .hbm, ⟨66, _⟩ => ⟨S256x1024, .f32⟩
  | .hbm, ⟨67, _⟩ => ⟨S4096x1024, .f32⟩
  | .hbm, ⟨68, _⟩ => ⟨S1x1024, .f32⟩
  | .hbm, ⟨69, _⟩ => ⟨S4096x1024, .f32⟩
  | .hbm, ⟨70, _⟩ => ⟨S4096x1024, .f32⟩
  | .hbm, ⟨71, _⟩ => ⟨S_, .f32⟩
  | .hbm, ⟨72, _⟩ => ⟨S4096x1024, .f32⟩
  | .hbm, ⟨73, _⟩ => ⟨S4096x1024, .f32⟩
  | .hbm, ⟨74, _⟩ => ⟨S1024x512, .f32⟩
  | .hbm, ⟨75, _⟩ => ⟨S4096x512, .f32⟩
  | .hbm, ⟨76, _⟩ => ⟨S1x512, .f32⟩
  | .hbm, ⟨77, _⟩ => ⟨S4096x512, .f32⟩
  | .hbm, ⟨78, _⟩ => ⟨S4096x512, .f32⟩
  | .hbm, ⟨79, _⟩ => ⟨S_, .f32⟩
  | .hbm, ⟨80, _⟩ => ⟨S4096x512, .f32⟩
  | .hbm, ⟨81, _⟩ => ⟨S4096x512, .f32⟩
  | .hbm, ⟨82, _⟩ => ⟨S512x2, .f32⟩
  | .hbm, ⟨83, _⟩ => ⟨S4096x2, .f32⟩
  | .hbm, ⟨84, _⟩ => ⟨S1x2, .f32⟩
  | .hbm, ⟨85, _⟩ => ⟨S4096x2, .f32⟩
  | .hbm, ⟨86, _⟩ => ⟨S4096x2, .f32⟩
  | _, _ => ⟨S4096x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v0 : Ref sig .tc := ⟨.hbm, 31, rfl⟩
abbrev main_cst : Ref sig .tc := ⟨.hbm, 32, rfl⟩
abbrev main_v1 : Ref sig .tc := ⟨.hbm, 33, rfl⟩
abbrev main_cst_0 : Ref sig .tc := ⟨.hbm, 34, rfl⟩
abbrev main_v2 : Ref sig .tc := ⟨.hbm, 35, rfl⟩
abbrev main_v3 : Ref sig .tc := ⟨.hbm, 36, rfl⟩
abbrev main_call1_c : Ref sig .tc := ⟨.hbm, 37, rfl⟩
abbrev main_call1_v0 : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_c_1 : Ref sig .tc := ⟨.hbm, 45, rfl⟩
abbrev main_call1_c_2 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_3 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_call1_cst : Ref sig .tc := ⟨.hbm, 57, rfl⟩
abbrev main_call1_v15 : Ref sig .tc := ⟨.hbm, 58, rfl⟩
abbrev main_v4 : Ref sig .tc := ⟨.hbm, 59, rfl⟩
abbrev main_cst_1 : Ref sig .tc := ⟨.hbm, 60, rfl⟩
abbrev main_v5 : Ref sig .tc := ⟨.hbm, 61, rfl⟩
abbrev main_cst_2 : Ref sig .tc := ⟨.hbm, 62, rfl⟩
abbrev main_v6 : Ref sig .tc := ⟨.hbm, 63, rfl⟩
abbrev main_v7 : Ref sig .tc := ⟨.hbm, 64, rfl⟩
abbrev main_v8 : Ref sig .tc := ⟨.hbm, 65, rfl⟩
abbrev main_v9 : Ref sig .tc := ⟨.hbm, 66, rfl⟩
abbrev main_v10 : Ref sig .tc := ⟨.hbm, 67, rfl⟩
abbrev main_v11 : Ref sig .tc := ⟨.hbm, 68, rfl⟩
abbrev main_v12 : Ref sig .tc := ⟨.hbm, 69, rfl⟩
abbrev main_v13 : Ref sig .tc := ⟨.hbm, 70, rfl⟩
abbrev main_cst_3 : Ref sig .tc := ⟨.hbm, 71, rfl⟩
abbrev main_v14 : Ref sig .tc := ⟨.hbm, 72, rfl⟩
abbrev main_v15 : Ref sig .tc := ⟨.hbm, 73, rfl⟩
abbrev main_v16 : Ref sig .tc := ⟨.hbm, 74, rfl⟩
abbrev main_v17 : Ref sig .tc := ⟨.hbm, 75, rfl⟩
abbrev main_v18 : Ref sig .tc := ⟨.hbm, 76, rfl⟩
abbrev main_v19 : Ref sig .tc := ⟨.hbm, 77, rfl⟩
abbrev main_v20 : Ref sig .tc := ⟨.hbm, 78, rfl⟩
abbrev main_cst_4 : Ref sig .tc := ⟨.hbm, 79, rfl⟩
abbrev main_v21 : Ref sig .tc := ⟨.hbm, 80, rfl⟩
abbrev main_v22 : Ref sig .tc := ⟨.hbm, 81, rfl⟩
abbrev main_v23 : Ref sig .tc := ⟨.hbm, 82, rfl⟩
abbrev main_v24 : Ref sig .tc := ⟨.hbm, 83, rfl⟩
abbrev main_v25 : Ref sig .tc := ⟨.hbm, 84, rfl⟩
abbrev main_v26 : Ref sig .tc := ⟨.hbm, 85, rfl⟩
abbrev main_v27 : Ref sig .tc := ⟨.hbm, 86, rfl⟩

abbrev nD : Nat := 1
abbrev τ : Topo := Topo.v7x

variable {F : FTy → Type} [FloatOps F]
-- ==== Proof.Steps.lean ====
/-
  Runs of plain loads and stores: a program that loads from one memref it only reads and stores through
  another, followed as a relation between programs, and the weakest precondition of such a run.
-/
module

public import Idealize.ShloMosaic.Lib.Pipeline.Kit
public import Idealize.ShloMosaic.Lib.Tactic
public import Idealize.ShloMosaic.Lib.Writes

@[expose] public section

noncomputable section

namespace Cert.Proof

open Idealize.ShloMosaic
open Idealize.SL Idealize.SL.RA Idealize.SL.BI
open scoped Idealize.SL.BI
open Idealize.SL.BI.BIBase Idealize.SL.BI.Laws Idealize.SL.Sem

variable {nD : Nat} {τ : Topo} {sig : RefSig} {Ix : Type} [DecidableEq Ix]
variable {Val : EltTy → Type} {Name : Type} [DecidableEq Name] {U : Type} [URA U]
variable {Lvl : Type} {Λ : Labels} [Preorder Lvl] {defs : Defs nD τ sig Val Λ}

/-- `p` becomes `p'` after loads from `m`, whose buffer holds `f`, and loads and stores through `o`, whose
    stores so far, the last one first, are `L`, and then `L'`, over what it held when the run began. -/
inductive Steps (c : Thread nD τ) {cs cs' : CoreSpace} {s s' : Shape} {e e' : EltTy} {α : Type}
    (m : Memref sig c.2.kind cs s e) (f : Buf Val (m.view.loc c)) (o : Memref sig c.2.kind cs' s' e') :
    List (View.Piece Val s' e') → Prog (TpuEff nD τ sig Val Λ c.2) α →
    List (View.Piece Val s' e') → Prog (TpuEff nD τ sig Val Λ c.2) α → Prop
  | done {L p} : Steps c m f o L p L p
  | load {L r hl k L' p'} (h : Steps c m f o L (k (m.view.readAt Val r f)) L' p') :
      Steps c m f o L (.op (.load m r hl) k) L' p'
  | peek {L r hl k L' p'} (h : ∀ v, Steps c m f o L (k v) L' p') :
      Steps c m f o L (.op (.load o r hl) k) L' p'
  | store {L r w hx hm k L' p'} (h : Steps c m f o (⟨r, w⟩ :: L) (k ⟨⟩) L' p') :
      Steps c m f o L (.op (.store o r w Finset.univ hx hm) k) L' p'

theorem Steps.wp (𝒱 : Variants) (c : Thread nD τ) (bd : Option 𝒱.V) (E : Set Name)
    {cs cs' : CoreSpace} {s s' : Shape} {e e' : EltTy} {α : Type} {Q : α → sProp (MT nD τ sig Ix Val Name U Lvl)}
    {m : Memref sig c.2.kind cs s e} {f : Buf Val (m.view.loc c)} {o : Memref sig c.2.kind cs' s' e'}
    {L L' : List (View.Piece Val s' e')} {p p' : Prog (TpuEff nD τ sig Val Λ c.2) α}
    (h : Steps c m f o L p L' p') (g : Buf Val (o.view.loc c)) :
    iprop((m.view.loc c ↦{fullShare} f) ∗ (o.view.loc c ↦{fullShare} o.view.writes Val g L))
      ⊢ iprop(((m.view.loc c ↦{fullShare} f) -∗ (o.view.loc c ↦{fullShare} o.view.writes Val g L') -∗
            wp frame (wpE defs 𝒱 c bd) E p' Q)
        -∗ wp frame (wpE defs 𝒱 c bd) E p Q) := by
  induction h with
  | done => iintro ⟨Hm, Ho⟩ H; iapply H $$ Hm Ho
  | load h ih =>
    iintro ⟨Hm, Ho⟩ H
    iapply (wp_load 𝒱 c bd E (Finset.subset_univ _)) $$ Hm
    iintro Hm
    iapply ih $$ [Hm Ho]
    · isplitl [Hm]
      · iexact Hm
      · iexact Ho
    iexact H
  | peek h ih =>
    iintro ⟨Hm, Ho⟩ H
    iapply (wp_load 𝒱 c bd E (Finset.subset_univ _)) $$ Ho
    iintro Ho
    iapply (ih _) $$ [Hm Ho]
    · isplitl [Hm]
      · iexact Hm
      · iexact Ho
    iexact H
  | store h ih =>
    iintro ⟨Hm, Ho⟩ H
    iapply (wp_store_writes 𝒱 c bd E (Finset.subset_univ _)) $$ Ho
    iintro Ho
    iapply ih $$ [Hm Ho]
    · isplitl [Hm]
      · iexact Hm
      · iexact Ho
    iexact H

end Cert.Proof
-- ==== Proof.Pool.lean ====
/-
  What the SparseCore half of the kernel computes, as a function: sums of fifty table rows, each added up from the
  first row on.
-/
module

public import Idealize.ShloMosaic.Lib.ValueIdxCore
public import Idealize.ShloMosaic.Lib.Writes

@[expose] public section

noncomputable section

namespace Cert.Proof

open Idealize.ShloMosaic Idealize.ShloMosaic.ValueIdx

variable {F : FTy → Type} [FloatOps F]

/-- `g 0`, …, `g n` added up from the first on. -/
def sumTo (g : ℕ → F .f32) : ℕ → F .f32
  | 0 => g 0
  | n + 1 => FloatOps.addf (sumTo g n) (g (n + 1))

omit [FloatOps F] in
theorem sumTo_congr [FloatOps F] {g g' : ℕ → F .f32} : ∀ n, (∀ j ≤ n, g j = g' j) → sumTo g n = sumTo g' n
  | 0, h => h 0 le_rfl
  | n + 1, h => by
    unfold sumTo
    rw [sumTo_congr n fun j hj => h j (Nat.le_succ_of_le hj), h (n + 1) le_rfl]

/-- The table rows that row `ch` of a subcore's list names. -/
def gbuf (tab : (⟨2, ![100000, 128]⟩ : Shape).Idx → Elt F .f32) (l : (⟨2, ![128, 104]⟩ : Shape).Idx → Elt F .i32) (ch : ℕ) :
    (⟨2, ![104, 128]⟩ : Shape).Idx → Elt F .f32 :=
  fun x => tab (ix2 (Fin.ofNat 100000 (BitVec.toNat (l (ix2 (Fin.ofNat 128 ch) (x 0))))) (x 1))

/-- Rows `base`, …, `base + 49` of a buffer of table rows added up, at one lane. -/
def pool1 (f : (⟨2, ![104, 128]⟩ : Shape).Idx → Elt F .f32) (base : ℕ) (y : Fin 128) : Elt F .f32 :=
  sumTo (fun j => f (ix2 (Fin.ofNat 104 (base + j)) y)) 49

/-- A subcore's block of sums: two rows for each row of its list. -/
def res (tab : (⟨2, ![100000, 128]⟩ : Shape).Idx → Elt F .f32) (l : (⟨2, ![128, 104]⟩ : Shape).Idx → Elt F .i32) :
    (⟨2, ![256, 128]⟩ : Shape).Idx → Elt F .f32 :=
  fun x => pool1 (gbuf tab l ((x 0).val / 2)) (50 * ((x 0).val % 2)) (x 1)

/-- All the blocks, subcore `w`'s from row `256 w` on. -/
def pooled (tab : (⟨2, ![100000, 128]⟩ : Shape).Idx → Elt F .f32) (idx : (⟨3, ![32, 128, 104]⟩ : Shape).Idx → Elt F .i32) :
    (⟨2, ![8192, 128]⟩ : Shape).Idx → Elt F .f32 :=
  fun x => res tab (fun y => idx (ix3 (Fin.ofNat 32 ((x 0).val / 256)) (y 0) (y 1))) (ix2 (Fin.ofNat 256 ((x 0).val % 256)) (x 1))

end Cert.Proof
-- ==== Proof.Words.lean ====
/-
  The row numbers: what the precondition says of them, and the array of lists the host lays out for the subcores.
-/
module

public import proofs.«01_k».proof.Pre_in_vocab
public import Idealize.ShloMosaic.Lib.ValueIdxCore
public import Idealize.ShloMosaic.Lib.ReduceAll
public import Idealize.ShloMosaic.Lib.WordCmp
public import Idealize.ShloMosaic.Lib.KernelVsHost
public import Idealize.ShloMosaic.Lib.Pipeline.Value

@[expose] public section

noncomputable section

namespace Cert.Proof

open Idealize.ShloMosaic Idealize.ShloMosaic.ValueIdx

/-- A pair of bags of fifty row numbers per example. -/
abbrev SB : Shape := ⟨2, ![4096, 50]⟩

/-- The bags' row numbers as one flat list, the first argument's in front. -/
def flatAt (a b : SB.Idx → BitVec 32) (f : ℕ) : BitVec 32 :=
  if f < 204800 then a (ix2 (Fin.ofNat 4096 (f / 50)) (Fin.ofNat 50 (f % 50)))
  else b (ix2 (Fin.ofNat 4096 ((f - 204800) / 50)) (Fin.ofNat 50 ((f - 204800) % 50)))

/-- The subcores' lists: the flat list in rows of a hundred, four zeros behind each. -/
def lists (a b : SB.Idx → BitVec 32) : (⟨3, ![32, 128, 104]⟩ : Shape).Idx → BitVec 32 := fun x =>
  if (x 2).val < 100 then flatAt a b (((x 0).val * 128 + (x 1).val) * 100 + (x 2).val) else 0#32

/-- One argument's flat list. -/
theorem flat_apply (a : SB.Idx → BitVec 32) (h : SB.ShapeCasts ⟨1, ![204800]⟩) (j : (⟨1, ![204800]⟩ : Shape).Idx) :
    shapeCast ⟨1, ![204800]⟩ a h j = a (ix2 (Fin.ofNat 4096 ((j 0).val / 50)) (Fin.ofNat 50 ((j 0).val % 50))) := by
  have hj : (j 0).val < 204800 := (j 0).isLt
  refine shapeCast_apply a h j _ ?_
  rw [Shape.rowMajor_val_two, Shape.rowMajor_val_one]
  show (((j 0).val / 50) % 4096) * 50 + ((j 0).val % 50) % 50 = (j 0).val
  omega

/-- Both arguments' flat lists end to end. -/
theorem both_apply (a b : SB.Idx → BitVec 32) (h : SB.ShapeCasts ⟨1, ![204800]⟩)
    (hc : Shape.Concatenates [(⟨1, ![204800]⟩ : Shape), ⟨1, ![204800]⟩] ⟨1, ![409600]⟩ 0) (j : (⟨1, ![409600]⟩ : Shape).Idx) :
    concatenate (⟨1, ![409600]⟩ : Shape) 0 [⟨⟨1, ![204800]⟩, shapeCast ⟨1, ![204800]⟩ a h⟩, ⟨⟨1, ![204800]⟩, shapeCast ⟨1, ![204800]⟩ b h⟩] hc j
      = flatAt a b (j 0).val := by
  have hj : (j 0).val < 409600 := (j 0).isLt
  unfold flatAt
  by_cases hlt : (j 0).val < 204800
  · rw [if_pos hlt]
    refine (concatenate_pair_apply_left (s₁ := ⟨1, ![204800]⟩) (s₂ := ⟨1, ![204800]⟩) 0 _ _ hc j rfl (ix1 (⟨(j 0).val, hlt⟩ : Fin 204800)) (fun c => by
      fin_cases c; rfl)).trans ?_
    exact flat_apply a h _
  · rw [if_neg hlt]
    have hlt' : (j 0).val - 204800 < 204800 := by omega
    refine (concatenate_pair_apply_right (s₁ := ⟨1, ![204800]⟩) (s₂ := ⟨1, ![204800]⟩) 0 _ _ hc j rfl rfl (ix1 (⟨(j 0).val - 204800, hlt'⟩ : Fin 204800)) (fun c hne => by
      fin_cases c; exact absurd rfl hne) (by
      show (j 0).val - 204800 + 204800 = (j 0).val
      omega)).trans ?_
    exact flat_apply b h _

/-- The host's lists are `lists`. -/
theorem lists_eq (a b : SB.Idx → BitVec 32) (h : SB.ShapeCasts ⟨1, ![204800]⟩)
    (hc : Shape.Concatenates [(⟨1, ![204800]⟩ : Shape), ⟨1, ![204800]⟩] ⟨1, ![409600]⟩ 0)
    (h3 : (⟨1, ![409600]⟩ : Shape).ShapeCasts ⟨3, ![32, 128, 100]⟩)
    (hp : (⟨3, ![32, 128, 100]⟩ : Shape).Pads ![0, 0, 0] ![0, 0, 4] ![0, 0, 0] ⟨3, ![32, 128, 104]⟩)
    (hu : 0 < (⟨0, ![]⟩ : Shape).numel) :
    pad (⟨3, ![32, 128, 104]⟩ : Shape) ![0, 0, 0] ![0, 0, 4] ![0, 0, 0]
      (shapeCast ⟨3, ![32, 128, 100]⟩ (concatenate (⟨1, ![409600]⟩ : Shape) 0
        [⟨⟨1, ![204800]⟩, shapeCast ⟨1, ![204800]⟩ a h⟩, ⟨⟨1, ![204800]⟩, shapeCast ⟨1, ![204800]⟩ b h⟩] hc) h3)
      (constantI ⟨0, ![]⟩ 32 0#32) hp hu = lists a b := by
  funext x
  have h0 : (x 0).val < 32 := (x 0).isLt
  have h1 : (x 1).val < 128 := (x 1).isLt
  have h2 : (x 2).val < 104 := (x 2).isLt
  unfold lists
  by_cases hlt : (x 2).val < 100
  · rw [if_pos hlt]
    refine (pad_apply_of_inside (s := ⟨3, ![32, 128, 100]⟩) (t := ⟨3, ![32, 128, 104]⟩) _ _ _ _ _ hp hu x
      (ix3 (⟨(x 0).val, h0⟩ : Fin 32) (⟨(x 1).val, h1⟩ : Fin 128) (⟨(x 2).val, hlt⟩ : Fin 100)) (fun c => by
        fin_cases c
        · show (x 0).val = 0 + (x 0).val * 1; omega
        · show (x 1).val = 0 + (x 1).val * 1; omega
        · show (x 2).val = 0 + (x 2).val * 1; omega)).trans ?_
    have hf : ((x 0).val * 128 + (x 1).val) * 100 + (x 2).val < 409600 := by omega
    refine (shapeCast_apply _ h3 _ (ix1 (⟨((x 0).val * 128 + (x 1).val) * 100 + (x 2).val, hf⟩ : Fin 409600)) (by
      rw [Shape.rowMajor_val_three, Shape.rowMajor_val_one]
      rfl)).trans ?_
    exact both_apply a b h hc _
  · rw [if_neg hlt]
    refine (pad_apply_of_not_inside (s := ⟨3, ![32, 128, 100]⟩) (t := ⟨3, ![32, 128, 104]⟩) _ _ _ _ _ hp hu x 2 (fun hin => hlt ?_)).trans rfl
    have := hin.2.2
    have e : ((x 2).val - 0) / (0 + 1) < 100 := this
    omega

/-! ### The precondition -/

/-- The precondition, read at an element of either array of row numbers. -/
theorem words_lt [Cert.Pre_in_vocab.Facts] {F : FTy → Type} [FloatOps F] (a b : SB.Idx → BitVec 32) (c2 c3 c4 c5 c6 c7 c8)
    (h : Cert.Pre_in_vocab.fn (F := F) a b c2 c3 c4 c5 c6 c7 c8 = fun _ => 1#1) :
    (∀ i, (a i).toNat < 100000) ∧ ∀ i, (b i).toNat < 100000 := by
  have ofBool_eq_one (p : Bool) : (BitVec.ofBool p = 1#1) ↔ p = true := by cases p <;> decide
  have and_one (p q : BitVec 1) (h : IntOp.andi p q = 1#1) : p = 1#1 ∧ q = 1#1 := by revert p q; decide
  have key : ∀ v : BitVec 32, IntOp.andi (IntOp.cmpi .sge v 0#32) (IntOp.cmpi .slt v 100000#32) = 1#1 → v.toNat < 100000 := by
    intro v e
    have e2 := and_one _ _ e
    simp only [IntOp.cmpi, ofBool_eq_one, BitVec.sle_eq_decide, BitVec.slt_eq_decide,
      decide_eq_true_eq, BitVec.toInt_eq_toNat_cond, BitVec.toNat_ofNat, Nat.reducePow, Nat.reduceMod] at e2
    omega
  haveI : Subsingleton Cert.Pre_in_vocab.S_.Idx := ⟨fun x y => funext fun c => c.elim0⟩
  have e := congrFun h (fun c => c.elim0)
  have e2 := and_one _ _ e
  exact ⟨fun i => key _ (Host.reduce_andi_all _ _ _ _ _ e2.1 i), fun i => key _ (Host.reduce_andi_all _ _ _ _ _ e2.2 i)⟩

theorem flatAt_lt {a b : SB.Idx → BitVec 32} (ha : ∀ i, (a i).toNat < 100000) (hb : ∀ i, (b i).toNat < 100000) (f : ℕ) :
    (flatAt a b f).toNat < 100000 := by
  unfold flatAt
  split
  · exact ha _
  · exact hb _

theorem lists_lt {a b : SB.Idx → BitVec 32} (ha : ∀ i, (a i).toNat < 100000) (hb : ∀ i, (b i).toNat < 100000)
    (x : (⟨3, ![32, 128, 104]⟩ : Shape).Idx) : (lists a b x).toNat < 100000 := by
  unfold lists
  split
  · exact flatAt_lt ha hb _
  · decide

end Cert.Proof

end
-- ==== Proof.Ideal.Trip.lean ====
/-
  One trip of a subcore's loop, followed through its loads and stores: between its gathers and waits it reads the
  buffer of gathered rows and stores sixteen sums.
-/
module

public import proofs.«01_k».proof.Proof.Steps
public import proofs.«01_k».proof.Proof.Gen.KernelIdeal.Skeleton

@[expose] public section

noncomputable section

namespace Cert.Proof.KernelIdeal

open Cert.KernelIdeal Cert.KernelIdeal.Facts₀ Cert.KernelIdeal.Facts
open Idealize.ShloMosaic Idealize.SL Idealize.SL.Sem

variable {F : FTy → Type} [FloatOps F] [Named F]

/-- The operands and the scratch buffers as a subcore addresses them. -/
abbrev eV : Memref sig .scVector .hbm S100000x128 .f32 := Memref.whole main_arg2_scv
abbrev iV : Memref sig .scVector .hbm S32x128x104 .i32 := Memref.whole main_v4_scv
abbrev oV : Memref sig .scVector .hbm S8192x128 .f32 := Memref.whole main_v5_scv
abbrev lV : Memref sig .scVector .vmem S128x104 .i32 := Memref.whole cc0_scratch0
abbrev aV : Memref sig .scVector .vmem S104x128 .f32 := Memref.whole cc0_scratch1
abbrev bV : Memref sig .scVector .vmem S104x128 .f32 := Memref.whole cc0_scratch2
abbrev rV : Memref sig .scVector .vmem S256x128 .f32 := Memref.whole cc0_scratch3
abbrev eAll : Memref sig .scVector .hbm S100000x128 .f32 :=
  eV.slice (Rect.unit (s := S100000x128) ![0, 0] S100000x128.size inb_S100000x128_S100000x128_0_0) (fun _ => rfl)

/-- The subcore's thread. -/
abbrev thr (d : Dev nD) (i : grid0.Coords) : Thread nD τ :=
  (d, .scVector ((i 0).castLE Facts₀.hcore0) ((i 1).castLE Facts₀.hsub0))

/-- One row of the list of rows, as the gather takes it. -/
abbrev lRow (o : Fin 2 → ℕ) (h : ∀ a, o a + S1x104.size a ≤ S128x104.size a) : Memref sig .scVector .vmem S104 .i32 :=
  (lV.slice (Rect.unit (s := S128x104) o S1x104.size h) (fun _ => rfl)).squeeze S104 squeezes_S1x104_S104

/-- A subcore's programs. -/
abbrev TP (F : FTy → Type) (i : grid0.Coords) : Type → Type 1 :=
  Prog (TpuEff nD τ sig (Elt F) Λ₀ (.scVector ((i 0).castLE Facts₀.hcore0) ((i 1).castLE Facts₀.hsub0)))

/-- The gather of the rows one row of the list names, and its wait. -/
abbrev gath (i : grid0.Coords) (b : Memref sig .scVector .vmem S104x128 .f32) (sem : DmaSem sig) (o : Fin 2 → ℕ)
    (h : ∀ a, o a + S1x104.size a ≤ S128x104.size a) : TP F i PUnit :=
  SparseCore.enqueueIndirectGather rfl eAll b gathers_S100000x128_S104x128 (lRow o h) rfl sem (View.wordExact_bits rfl) rfl (Or.inl rfl)
abbrev gathWait (i : grid0.Coords) (b : Memref sig .scVector .vmem S104x128 .f32) (hb : b.IsWhole) (sem : DmaSem sig) : TP F i PUnit :=
  SparseCore.waitIndirectGather sem eAll b (View.wordExact_bits rfl) hb.wordExact

abbrev TBody (i : grid0.Coords) : Fin k0_t1_loop.trips → Unit → Prog (TpuEff nD τ sig (Elt F) Λ₀ (.scVector ((i 0).castLE Facts₀.hcore0) ((i 1).castLE Facts₀.hsub0))) Unit :=
  Gen.k0_t1_body i eV (Memref.isWhole_whole _) iV (Memref.isWhole_whole _) oV (Memref.isWhole_whole _)
            lV (Memref.isWhole_whole _) aV (Memref.isWhole_whole _) bV (Memref.isWhole_whole _) rV (Memref.isWhole_whole _)
            cc0_scratch4 cc0_scratch5 cc0_scoped0 cc0_scoped1

theorem inb_lane (r d : ℕ) (hr : r < 104) (hd : d < 8) : ∀ a, (![r, 16 * d] : Fin 2 → ℕ) a + S1x16.size a ≤ S104x128.size a := by
  intro a
  match a with
  | 0 => change r + 1 ≤ 104; omega
  | 1 => change 16 * d + 16 ≤ 128; omega

/-- Sixteen lanes of a row of a buffer of gathered rows. -/
abbrev lane (d : Dev nD) (i : grid0.Coords) (b : Memref sig .scVector .vmem S104x128 .f32) (f : Buf (Elt F) (b.view.loc (thr d i)))
    (r e : ℕ) (hr : r < 104) (he : e < 8) : FVec F S16 .f32 :=
  shapeCast S16 (b.view.readAt (Elt F) (Rect.unit (s := S104x128) ![r, 16 * e] S1x16.size (inb_lane r e hr he)).toLoadRect f) shapeCasts_S1x16_S16

/-- Those lanes of rows `base`, …, `base + n` added up, from the first on. -/
def acc (d : Dev nD) (i : grid0.Coords) (b : Memref sig .scVector .vmem S104x128 .f32) (f : Buf (Elt F) (b.view.loc (thr d i)))
    (base e : ℕ) (he : e < 8) : (n : ℕ) → base + n < 104 → FVec F S16 .f32
  | 0, h => lane d i b f base e h he
  | n + 1, h => addf (acc d i b f base e he n (Nat.lt_of_succ_lt h)) (lane d i b f (base + n + 1) e h he)

/-- One store of a finished sum. -/
abbrev piece (d : Dev nD) (i : grid0.Coords) (b : Memref sig .scVector .vmem S104x128 .f32) (f : Buf (Elt F) (b.view.loc (thr d i)))
    (base e : ℕ) (he : e < 8) (hb : base + 49 < 104) (o : Fin 2 → ℕ) (ho : ∀ a, o a + S1x16.size a ≤ S256x128.size a) :
    View.Piece (Elt F) S256x128 .f32 :=
  ⟨Rect.unit (s := S256x128) o S1x16.size ho, shapeCast S1x16 (acc d i b f base e he 49 hb) shapeCasts_S16_S1x16⟩

abbrev piecesA (d : Dev nD) (i : grid0.Coords) (t : Fin k0_t1_loop.trips) (f : Buf (Elt F) (aV.view.loc (thr d i))) :
    List (View.Piece (Elt F) S256x128 .f32) :=
  [piece d i aV f 50 7 (by decide) (by decide) (k0_off11 t 1#32) (k0_off11_inb t 1),
    piece d i aV f 50 6 (by decide) (by decide) (k0_off10 t 1#32) (k0_off10_inb t 1),
    piece d i aV f 50 5 (by decide) (by decide) (k0_off9 t 1#32) (k0_off9_inb t 1),
    piece d i aV f 50 4 (by decide) (by decide) (k0_off8 t 1#32) (k0_off8_inb t 1),
    piece d i aV f 50 3 (by decide) (by decide) (k0_off7 t 1#32) (k0_off7_inb t 1),
    piece d i aV f 50 2 (by decide) (by decide) (k0_off6 t 1#32) (k0_off6_inb t 1),
    piece d i aV f 50 1 (by decide) (by decide) (k0_off5 t 1#32) (k0_off5_inb t 1),
    piece d i aV f 50 0 (by decide) (by decide) (k0_off4 t 1#32) (k0_off4_inb t 1),
    piece d i aV f 0 7 (by decide) (by decide) (k0_off11 t 0#32) (k0_off11_inb t 0),
    piece d i aV f 0 6 (by decide) (by decide) (k0_off10 t 0#32) (k0_off10_inb t 0),
    piece d i aV f 0 5 (by decide) (by decide) (k0_off9 t 0#32) (k0_off9_inb t 0),
    piece d i aV f 0 4 (by decide) (by decide) (k0_off8 t 0#32) (k0_off8_inb t 0),
    piece d i aV f 0 3 (by decide) (by decide) (k0_off7 t 0#32) (k0_off7_inb t 0),
    piece d i aV f 0 2 (by decide) (by decide) (k0_off6 t 0#32) (k0_off6_inb t 0),
    piece d i aV f 0 1 (by decide) (by decide) (k0_off5 t 0#32) (k0_off5_inb t 0),
    piece d i aV f 0 0 (by decide) (by decide) (k0_off4 t 0#32) (k0_off4_inb t 0)]

abbrev piecesB (d : Dev nD) (i : grid0.Coords) (t : Fin k0_t1_loop.trips) (f : Buf (Elt F) (bV.view.loc (thr d i))) :
    List (View.Piece (Elt F) S256x128 .f32) :=
  [piece d i bV f 50 7 (by decide) (by decide) (k0_off20 t 1#32) (k0_off20_inb t 1),
    piece d i bV f 50 6 (by decide) (by decide) (k0_off19 t 1#32) (k0_off19_inb t 1),
    piece d i bV f 50 5 (by decide) (by decide) (k0_off18 t 1#32) (k0_off18_inb t 1),
    piece d i bV f 50 4 (by decide) (by decide) (k0_off17 t 1#32) (k0_off17_inb t 1),
    piece d i bV f 50 3 (by decide) (by decide) (k0_off16 t 1#32) (k0_off16_inb t 1),
    piece d i bV f 50 2 (by decide) (by decide) (k0_off15 t 1#32) (k0_off15_inb t 1),
    piece d i bV f 50 1 (by decide) (by decide) (k0_off14 t 1#32) (k0_off14_inb t 1),
    piece d i bV f 50 0 (by decide) (by decide) (k0_off13 t 1#32) (k0_off13_inb t 1),
    piece d i bV f 0 7 (by decide) (by decide) (k0_off20 t 0#32) (k0_off20_inb t 0),
    piece d i bV f 0 6 (by decide) (by decide) (k0_off19 t 0#32) (k0_off19_inb t 0),
    piece d i bV f 0 5 (by decide) (by decide) (k0_off18 t 0#32) (k0_off18_inb t 0),
    piece d i bV f 0 4 (by decide) (by decide) (k0_off17 t 0#32) (k0_off17_inb t 0),
    piece d i bV f 0 3 (by decide) (by decide) (k0_off16 t 0#32) (k0_off16_inb t 0),
    piece d i bV f 0 2 (by decide) (by decide) (k0_off15 t 0#32) (k0_off15_inb t 0),
    piece d i bV f 0 1 (by decide) (by decide) (k0_off14 t 0#32) (k0_off14_inb t 0),
    piece d i bV f 0 0 (by decide) (by decide) (k0_off13 t 0#32) (k0_off13_inb t 0)]

set_option maxRecDepth 100000
set_option maxHeartbeats 0

theorem trip_steps (d : Dev nD) (i : grid0.Coords) (t : Fin k0_t1_loop.trips) :
    ∃ (p1 : TP F i Unit) (p2 : Buf (Elt F) (aV.view.loc (thr d i)) → TP F i Unit)
        (p3 : Buf (Elt F) (aV.view.loc (thr d i)) → TP F i Unit),
      TBody (F := F) i t ⟨⟩ = (gath i bV cc0_scratch5.sem (k0_off2 t) (k0_off2_inb t) >>= fun _ =>
        gathWait i aV (Memref.isWhole_whole _) cc0_scratch4.sem >>= fun _ => p1) ∧
      (∀ f, Steps (thr d i) aV f rV [] p1 (piecesA d i t f) (p2 f)) ∧
      (∀ f (h : k0_cond1 t = 1#1), p2 f = (gath i aV cc0_scratch4.sem (k0_off12 t) (k0_off12_inb t h) >>= fun _ =>
        gathWait i bV (Memref.isWhole_whole _) cc0_scratch5.sem >>= fun _ => p3 f)) ∧
      (∀ f, ¬ k0_cond1 t = 1#1 → p2 f = (gathWait i bV (Memref.isWhole_whole _) cc0_scratch5.sem >>= fun _ => p3 f)) ∧
      (∀ f f', Steps (thr d i) bV f' rV [] (p3 f) (piecesB d i t f') (.ret ⟨⟩)) := by
  refine ⟨?_, ?_, ?_, ?_, ?_, ?_, ?_, ?_⟩
  rotate_left 3
  · refine Eq.trans (b := Prog.op _ _) rfl (Eq.trans (congrArg (Prog.op _) (funext fun x => ?_)) (Eq.symm (a := _ >>= _) (b := Prog.op _ _) rfl))
    refine Eq.trans (b := Prog.op _ _) rfl (Eq.trans (congrArg (Prog.op _) (funext fun x => ?_)) (Eq.symm (a := _ >>= _) (b := Prog.op _ _) rfl))
    exact rfl
  · intro f
    iterate 832 (first | apply Steps.load | apply Steps.store | refine Steps.peek fun _ => ?_)
    exact Steps.done
  · intro f h
    refine Eq.trans (congrArg (fun z => Prog.bind z _) (congrArg (fun z => Prog.bind z _) (Eq.trans (b := dite _ _ _) rfl (dif_pos h)))) ?_
    refine Eq.trans (b := Prog.op _ _) rfl (Eq.trans (congrArg (Prog.op _) (funext fun x => ?_)) (Eq.symm (a := _ >>= _) (b := Prog.op _ _) rfl))
    refine Eq.trans (b := Prog.op _ _) rfl (Eq.trans (congrArg (Prog.op _) (funext fun x => ?_)) (Eq.symm (a := _ >>= _) (b := Prog.op _ _) rfl))
    exact rfl
  · intro f h
    refine Eq.trans (congrArg (fun z => Prog.bind z _) (congrArg (fun z => Prog.bind z _) (Eq.trans (b := dite _ _ _) rfl (dif_neg h)))) ?_
    refine Eq.trans (b := Prog.op _ _) rfl (Eq.trans (congrArg (Prog.op _) (funext fun x => ?_)) (Eq.symm (a := _ >>= _) (b := Prog.op _ _) rfl))
    exact rfl
  · intro f f'
    iterate 832 (first | apply Steps.load | apply Steps.store | refine Steps.peek fun _ => ?_)
    exact Steps.done

end Cert.Proof.KernelIdeal
-- ==== Proof.Ideal.TripValue.lean ====
/-
  What one trip of a subcore's loop leaves in the block of sums.
-/
module

public import proofs.«01_k».proof.Proof.Ideal.Trip
public import proofs.«01_k».proof.Proof.Pool
public import Idealize.ShloMosaic.Lib.Pipeline.Value

@[expose] public section

noncomputable section

namespace Cert.Proof.KernelIdeal

open Cert.KernelIdeal Cert.KernelIdeal.Facts₀ Cert.KernelIdeal.Facts
open Idealize.ShloMosaic Idealize.ShloMosaic.ValueIdx Idealize.SL Idealize.SL.Sem

variable {F : FTy → Type} [FloatOps F] [Named F]

variable (d : Dev nD) (i : grid0.Coords) (b : Memref sig .scVector .vmem S104x128 .f32) (f : Buf (Elt F) (b.view.loc (thr d i)))

theorem lane_apply (r e : ℕ) (hr : r < 104) (he : e < 8) (x : S16.Idx) :
    lane d i b f r e hr he x = b.view.read (Elt F) f (ix2 ⟨r, hr⟩ ⟨16 * e + (x 0).val, by have := (x 0).isLt; change _ < 16 at this; omega⟩) := by
  unfold lane
  refine (shapeCast_dropUnit_apply ![16] _ _ x).trans ?_
  rw [View.readAt_rect]
  change b.view.read (Elt F) f ((Rect.unit (s := S104x128) ![r, 16 * e] S1x16.size (inb_lane r e hr he)).emb _) = _
  refine congrArg (b.view.read (Elt F) f) (Rect.emb_eq_of_coords _ _ _ fun a => ?_)
  match a with
  | ⟨0, _⟩ => simp; rfl
  | ⟨1, _⟩ => simp; rfl

theorem acc_apply (base e : ℕ) (he : e < 8) (x : S16.Idx) : ∀ (n : ℕ) (h : base + n < 104),
    acc d i b f base e he n h x
      = sumTo (fun j => b.view.read (Elt F) f (ix2 (Fin.ofNat 104 (base + j)) ⟨16 * e + (x 0).val, by have := (x 0).isLt; change _ < 16 at this; omega⟩)) n
  | 0, h => by
    unfold acc sumTo
    rw [lane_apply]
    congr 2
    exact Fin.ext (Nat.mod_eq_of_lt h).symm
  | n + 1, h => by
    unfold acc sumTo
    change FloatOps.addf (acc d i b f base e he n _ x) (lane d i b f (base + n + 1) e h he x) = _
    rw [acc_apply base e he x n, lane_apply]
    congr 3
    exact Fin.ext (Nat.mod_eq_of_lt h).symm

theorem piece_congr {base e : ℕ} {he : e < 8} {hb : base + 49 < 104} {o o' : Fin 2 → ℕ} {ho : ∀ a, o a + S1x16.size a ≤ S256x128.size a}
    (h : o = o') : piece d i b f base e he hb o ho = piece d i b f base e he hb o' (h ▸ ho) := by
  subst h; rfl

theorem inb_sum {ch : ℕ} (hch : ch < 128) (sg : Fin 2) (e : Fin 8) :
    ∀ a, (![2 * ch + sg.val, 16 * e.val] : Fin 2 → ℕ) a + S1x16.size a ≤ S256x128.size a := by
  intro a
  match a with
  | 0 => change 2 * ch + sg.val + 1 ≤ 256; omega
  | 1 => change 16 * e.val + 16 ≤ 128; omega

/-- The store of chunk `ch`'s sum `sg`, sixteen lanes `e`. -/
abbrev pc {ch : ℕ} (hch : ch < 128) (sg : Fin 2) (e : Fin 8) : View.Piece (Elt F) S256x128 .f32 :=
  piece d i b f (50 * sg.val) e.val e.isLt (by omega) ![2 * ch + sg.val, 16 * e.val] (inb_sum hch sg e)

/-- The sixteen stores of chunk `ch`, the last first. -/
abbrev pcs {ch : ℕ} (hch : ch < 128) : List (View.Piece (Elt F) S256x128 .f32) :=
  [pc d i b f hch 1 7, pc d i b f hch 1 6, pc d i b f hch 1 5, pc d i b f hch 1 4, pc d i b f hch 1 3, pc d i b f hch 1 2,
    pc d i b f hch 1 1, pc d i b f hch 1 0, pc d i b f hch 0 7, pc d i b f hch 0 6, pc d i b f hch 0 5, pc d i b f hch 0 4,
    pc d i b f hch 0 3, pc d i b f hch 0 2, pc d i b f hch 0 1, pc d i b f hch 0 0]

theorem mem_pcs {ch : ℕ} (hch : ch < 128) : ∀ (sg : Fin 2) (e : Fin 8), pc d i b f hch sg e ∈ pcs d i b f hch := by
  intro sg e
  fin_cases sg <;> fin_cases e <;> simp [pcs]

theorem of_mem_pcs {ch : ℕ} (hch : ch < 128) (p : View.Piece (Elt F) S256x128 .f32) (hp : p ∈ pcs d i b f hch) :
    ∃ (sg : Fin 2) (e : Fin 8), p = pc d i b f hch sg e := by
  simp only [pcs, List.mem_cons, List.not_mem_nil, or_false] at hp
  rcases hp with h | h | h | h | h | h | h | h | h | h | h | h | h | h | h | h <;> exact ⟨_, _, h⟩

/-- The block of sums after a chunk's stores: the chunk's two rows are its sums, the others as before. -/
theorem read_pcs {ch : ℕ} (hch : ch < 128) (o : Memref sig .scVector .vmem S256x128 .f32) (g : Buf (Elt F) (o.view.loc (thr d i))) (y : S256x128.Idx) :
    o.view.read (Elt F) (o.view.writes (Elt F) g (pcs d i b f hch)) y
      = if (y 0).val / 2 = ch then pool1 (b.view.read (Elt F) f) (50 * ((y 0).val % 2)) (y 1) else o.view.read (Elt F) g y := by
  have hy1 : (y 1).val < 128 := (y 1).isLt
  split
  · next h =>
    refine View.read_writes_apply_of_pieces o.view g (fun y => pool1 (b.view.read (Elt F) f) (50 * ((y 0).val % 2)) (y 1)) _ ?_ y ?_
    · intro p hp x
      obtain ⟨sg, e, rfl⟩ := of_mem_pcs d i b f hch p hp
      change shapeCast S1x16 (acc d i b f (50 * sg.val) e.val e.isLt 49 _) shapeCasts_S16_S1x16 x = _
      refine (shapeCast_addUnit_apply ![16] _ _ x).trans ?_
      refine (acc_apply d i b f (50 * sg.val) e.val e.isLt (fun a => x a.succ) 49 _).trans ?_
      have h0 : ((Rect.unit (s := S256x128) ![2 * ch + sg.val, 16 * e.val] S1x16.size (inb_sum hch sg e)).emb x 0).val % 2 = sg.val := by
        have : (x 0).val < 1 := (x 0).isLt
        change (2 * ch + sg.val + 1 * (x 0).val) % 2 = _
        omega
      have h1 : (Rect.unit (s := S256x128) ![2 * ch + sg.val, 16 * e.val] S1x16.size (inb_sum hch sg e)).emb x 1
          = (⟨16 * e.val + (x 1).val, by have : (x 1).val < 16 := (x 1).isLt; omega⟩ : Fin 128) := by
        apply Fin.ext
        change 16 * e.val + 1 * (x 1).val = 16 * e.val + (x 1).val
        omega
      simp only []
      rw [h0, h1]
      rfl
    · refine ⟨_, mem_pcs d i b f hch ⟨(y 0).val % 2, by omega⟩ ⟨(y 1).val / 16, by omega⟩, (LoadRect.mem_set _).mpr fun a => ?_⟩
      match a with
      | 0 =>
        refine ⟨0, Nat.one_pos, ?_⟩
        change (y 0).val = 2 * ch + (y 0).val % 2 + 1 * 0
        omega
      | 1 =>
        refine ⟨(y 1).val % 16, Nat.mod_lt _ (by decide), ?_⟩
        change (y 1).val = 16 * ((y 1).val / 16) + 1 * ((y 1).val % 16)
        omega
  · next h =>
    refine View.read_writes_apply_of_forall_not_mem o.view g y _ fun p hp => ?_
    obtain ⟨sg, e, rfl⟩ := of_mem_pcs d i b f hch p hp
    refine Rect.not_mem_set_of_axis _ y 0 (2 * ch + sg.val) 1 rfl rfl rfl ?_
    omega

theorem trip_lt (t : Fin k0_t1_loop.trips) : t.val < 64 := lt_of_lt_of_le t.isLt Gen.k0_t1_abs.2.1

theorem vec_congr {p p' q : ℕ} (h : p = p') : (![p, q] : Fin 2 → ℕ) = ![p', q] := by rw [h]

theorem piecesA_eq (t : Fin k0_t1_loop.trips) (f : Buf (Elt F) (aV.view.loc (thr d i))) :
    piecesA d i t f = pcs d i aV f (ch := 2 * t.val) (by have := trip_lt t; omega) := by
  refine congrArg₂ List.cons (piece_congr d i aV f ((Gen.k0_off11_eq t 1).trans (vec_congr (by omega)))) ?_
  refine congrArg₂ List.cons (piece_congr d i aV f ((Gen.k0_off10_eq t 1).trans (vec_congr (by omega)))) ?_
  refine congrArg₂ List.cons (piece_congr d i aV f ((Gen.k0_off9_eq t 1).trans (vec_congr (by omega)))) ?_
  refine congrArg₂ List.cons (piece_congr d i aV f ((Gen.k0_off8_eq t 1).trans (vec_congr (by omega)))) ?_
  refine congrArg₂ List.cons (piece_congr d i aV f ((Gen.k0_off7_eq t 1).trans (vec_congr (by omega)))) ?_
  refine congrArg₂ List.cons (piece_congr d i aV f ((Gen.k0_off6_eq t 1).trans (vec_congr (by omega)))) ?_
  refine congrArg₂ List.cons (piece_congr d i aV f ((Gen.k0_off5_eq t 1).trans (vec_congr (by omega)))) ?_
  refine congrArg₂ List.cons (piece_congr d i aV f ((Gen.k0_off4_eq t 1).trans (vec_congr (by omega)))) ?_
  refine congrArg₂ List.cons (piece_congr d i aV f ((Gen.k0_off11_eq t 0).trans (vec_congr (by omega)))) ?_
  refine congrArg₂ List.cons (piece_congr d i aV f ((Gen.k0_off10_eq t 0).trans (vec_congr (by omega)))) ?_
  refine congrArg₂ List.cons (piece_congr d i aV f ((Gen.k0_off9_eq t 0).trans (vec_congr (by omega)))) ?_
  refine congrArg₂ List.cons (piece_congr d i aV f ((Gen.k0_off8_eq t 0).trans (vec_congr (by omega)))) ?_
  refine congrArg₂ List.cons (piece_congr d i aV f ((Gen.k0_off7_eq t 0).trans (vec_congr (by omega)))) ?_
  refine congrArg₂ List.cons (piece_congr d i aV f ((Gen.k0_off6_eq t 0).trans (vec_congr (by omega)))) ?_
  refine congrArg₂ List.cons (piece_congr d i aV f ((Gen.k0_off5_eq t 0).trans (vec_congr (by omega)))) ?_
  refine congrArg₂ List.cons (piece_congr d i aV f ((Gen.k0_off4_eq t 0).trans (vec_congr (by omega)))) ?_
  rfl

theorem piecesB_eq (t : Fin k0_t1_loop.trips) (f : Buf (Elt F) (bV.view.loc (thr d i))) :
    piecesB d i t f = pcs d i bV f (ch := 2 * t.val + 1) (by have := trip_lt t; omega) := by
  refine congrArg₂ List.cons (piece_congr d i bV f ((Gen.k0_off20_eq t 1).trans (vec_congr (by omega)))) ?_
  refine congrArg₂ List.cons (piece_congr d i bV f ((Gen.k0_off19_eq t 1).trans (vec_congr (by omega)))) ?_
  refine congrArg₂ List.cons (piece_congr d i bV f ((Gen.k0_off18_eq t 1).trans (vec_congr (by omega)))) ?_
  refine congrArg₂ List.cons (piece_congr d i bV f ((Gen.k0_off17_eq t 1).trans (vec_congr (by omega)))) ?_
  refine congrArg₂ List.cons (piece_congr d i bV f ((Gen.k0_off16_eq t 1).trans (vec_congr (by omega)))) ?_
  refine congrArg₂ List.cons (piece_congr d i bV f ((Gen.k0_off15_eq t 1).trans (vec_congr (by omega)))) ?_
  refine congrArg₂ List.cons (piece_congr d i bV f ((Gen.k0_off14_eq t 1).trans (vec_congr (by omega)))) ?_
  refine congrArg₂ List.cons (piece_congr d i bV f ((Gen.k0_off13_eq t 1).trans (vec_congr (by omega)))) ?_
  refine congrArg₂ List.cons (piece_congr d i bV f ((Gen.k0_off20_eq t 0).trans (vec_congr (by omega)))) ?_
  refine congrArg₂ List.cons (piece_congr d i bV f ((Gen.k0_off19_eq t 0).trans (vec_congr (by omega)))) ?_
  refine congrArg₂ List.cons (piece_congr d i bV f ((Gen.k0_off18_eq t 0).trans (vec_congr (by omega)))) ?_
  refine congrArg₂ List.cons (piece_congr d i bV f ((Gen.k0_off17_eq t 0).trans (vec_congr (by omega)))) ?_
  refine congrArg₂ List.cons (piece_congr d i bV f ((Gen.k0_off16_eq t 0).trans (vec_congr (by omega)))) ?_
  refine congrArg₂ List.cons (piece_congr d i bV f ((Gen.k0_off15_eq t 0).trans (vec_congr (by omega)))) ?_
  refine congrArg₂ List.cons (piece_congr d i bV f ((Gen.k0_off14_eq t 0).trans (vec_congr (by omega)))) ?_
  refine congrArg₂ List.cons (piece_congr d i bV f ((Gen.k0_off13_eq t 0).trans (vec_congr (by omega)))) ?_
  rfl

end Cert.Proof.KernelIdeal
-- ==== Proof.Ideal.Setup.lean ====
/-
  The program as the launch theorem sees it, and the algebra of the proof's own resources.
-/
module

public import proofs.«01_k».proof.Proof.Ideal.TripValue
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.Proof.KernelIdeal

open Cert.KernelIdeal Cert.KernelIdeal.Facts₀ Cert.KernelIdeal.Facts
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.Sem
open Idealize.ShloMosaic.Rounds

variable {F : FTy → Type}

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, the pipeline's rounds, the transfers' counters. -/
abbrev UH : Type := URounds (GSem nD τ sig) ℕ
abbrev UP : Type := UR sig nD τ
abbrev UU : Type := UH × (UP × Counters)

/-- The machine's resources with them. -/
abbrev MM (F : FTy → Type) : Type := MT nD τ sig (HIx 1) (Elt F) ℕ UU ℕ

abbrev EH : Emb UH (MM F) := embL
def EP : Emb UP (MM F) :=
  ((Emb.inl : Emb UP (UP × Counters)).trans Emb.inr).trans
    (uEmb (nD := nD) (τ := τ) (sig := sig) (Ix := HIx 1) (Val := Elt F) (Name := ℕ) (U := UU) (Lvl := ℕ)).toEmb

instance EP_landsIn : (EP : Emb UP (MM F)).LandsIn (upEmb : UEmb _ (MM F)) := by
  unfold EP; infer_instance

end Cert.Proof.KernelIdeal
-- ==== Proof.Ideal.Gather.lean ====
/-
  A subcore's indirect gather and its wait: a buffer filled with the table rows that one row of its list names.
-/
module

public import proofs.«01_k».proof.Proof.Ideal.Setup

@[expose] public section

noncomputable section

namespace Cert.Proof.KernelIdeal

open Cert.KernelIdeal Cert.KernelIdeal.Facts₀ Cert.KernelIdeal.Facts
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MM F

/-- Every word of a list names a table row. -/
def InR (l : S128x104.Idx → Elt F .i32) : Prop := ∀ x, BitVec.toNat (l x) < 100000

variable (d : Dev nD) (i : grid0.Coords)

theorem read_lRow (l : Buf (Elt F) (lV.view.loc (thr d i))) {ch : ℕ} (hch : ch < 128) {o : Fin 2 → ℕ} (ho : o = ![ch, 0])
    (h : ∀ a, o a + S1x104.size a ≤ S128x104.size a) (x : S104.Idx) :
    (lRow o h).view.read (Elt F) l x = l (ix2 ⟨ch, hch⟩ (x 0)) := by
  subst ho
  have hx : (x 0).val < 104 := (x 0).isLt
  change shapeCast S104 (lV.view.readAt (Elt F) (Rect.unit (s := S128x104) ![ch, 0] S1x104.size h).toLoadRect l) squeezes_S1x104_S104.numel_eq x = _
  refine (shapeCast_dropUnit_apply ![104] _ _ x).trans ?_
  change l ((Rect.unit (s := S128x104) ![ch, 0] S1x104.size h).emb _) = _
  refine congrArg l (Rect.emb_eq_of_coords _ _ _ fun a => ?_)
  match a with
  | ⟨0, _⟩ => simp; rfl
  | ⟨1, _⟩ => simp; rfl

theorem hin_lRow (l : Buf (Elt F) (lV.view.loc (thr d i))) (hl : InR l) (o : Fin 2 → ℕ) (h : ∀ a, o a + S1x104.size a ≤ S128x104.size a) :
    ∀ x, BitVec.toNat ((lRow o h).view.read (Elt F) l x) < S100000x128.size gathers_S100000x128_S104x128.axis :=
  fun _ => hl _

theorem rows_lRow (l : Buf (Elt F) (lV.view.loc (thr d i))) (hl : InR l) {ch : ℕ} (hch : ch < 128) {o : Fin 2 → ℕ} (ho : o = ![ch, 0])
    (h : ∀ a, o a + S1x104.size a ≤ S128x104.size a) (k : Fin 104) :
    (SparseCore.rows ((lRow o h).view.read (Elt F) l) rfl (hin_lRow d i l hl o h) k).val = BitVec.toNat (l (ix2 ⟨ch, hch⟩ k)) := by
  have hk : S104.rowMajor.symm (Fin.cast rfl k) = (ix1 k : S104.Idx) :=
    (Equiv.symm_apply_eq _).mpr (Fin.ext (Shape.rowMajor_val_one (ix1 k : S104.Idx)).symm)
  change BitVec.toNat ((lRow o h).view.read (Elt F) l (S104.rowMajor.symm (Fin.cast rfl k))) = _
  rw [hk, read_lRow d i l hch ho]

/-- What the gather writes: the table rows the list's row names. -/
theorem payload_eq (tab : Buf (Elt F) (eV.view.loc (thr d i))) (l : Buf (Elt F) (lV.view.loc (thr d i))) (hl : InR l)
    {ch : ℕ} (hch : ch < 128) {o : Fin 2 → ℕ} (ho : o = ![ch, 0]) (h : ∀ a, o a + S1x104.size a ≤ S128x104.size a) :
    SparseCore.gatherPayload gathers_S100000x128_S104x128 (eAll.view.read (Elt F) tab)
        (SparseCore.rows ((lRow o h).view.read (Elt F) l) rfl (hin_lRow d i l hl o h))
      = gbuf tab l ch := by
  funext x
  unfold SparseCore.gatherPayload gbuf
  change tab ((Rect.unit (s := S100000x128) ![0, 0] S100000x128.size inb_S100000x128_S100000x128_0_0).emb _) = _
  refine congrArg tab (Rect.emb_eq_of_coords _ _ _ fun a => ?_)
  match a with
  | ⟨0, h0⟩ =>
    have e := (congrArg Fin.val (Shape.Gathers.idx_axis gathers_S100000x128_S104x128 (SparseCore.rows ((lRow o h).view.read (Elt F) l) rfl (hin_lRow d i l hl o h)) x)).trans
      (rows_lRow d i l hl hch ho h (x 0))
    have hc : Fin.ofNat 128 ch = (⟨ch, hch⟩ : Fin 128) := Fin.ext (Nat.mod_eq_of_lt hch)
    have e' : (Fin.ofNat 100000 (BitVec.toNat (l (ix2 (Fin.ofNat 128 ch) (x 0 : Fin 104))))).val = BitVec.toNat (l (ix2 ⟨ch, hch⟩ (x 0 : Fin 104))) := by
      rw [hc]; exact Nat.mod_eq_of_lt (hl _)
    exact (e'.trans e.symm).trans ((Nat.zero_add _).trans (Nat.one_mul _)).symm
  | ⟨1, h1⟩ =>
    have e := Shape.Gathers.idx_of_ne gathers_S100000x128_S104x128 (SparseCore.rows ((lRow o h).view.read (Elt F) l) rfl (hin_lRow d i l hl o h)) x ⟨1, h1⟩ Nat.one_ne_zero
    exact e.symm.trans ((Nat.zero_add _).trans (Nat.one_mul _)).symm

/-- The gather of list row `o` into `b` under way: what it will deliver, and what it left behind of the table's and
    the list's shares. -/
def Going (b : Memref sig .scVector .vmem S104x128 .f32) (sem : DmaSem sig) (q ql : PosShare TreeShare)
    (tab : Buf (Elt F) (eV.view.loc (thr d i))) (l : Buf (Elt F) (lV.view.loc (thr d i))) (ch : ℕ) (o : Fin 2 → ℕ)
    (h : ∀ a, o a + S1x104.size a ≤ S128x104.size a) : sProp 𝕄 :=
  iprop(∃ fd : Buf (Elt F) (b.view.loc (thr d i)),
    Transfers.Flight countersEmb (thr d i) (.dma sem) (default : HIx 1) b.view.dmaCredit
      iprop((b.view.loc (thr d i) ↦[b.view.set]{fullShare} b.view.write (Elt F) fd (gbuf tab l ch) Finset.univ)
        ∗ (eAll.view.loc (thr d i) ↦[eAll.view.set]{q} tab) ∗ ((lRow o h).view.loc (thr d i) ↦[(lRow o h).view.set]{ql} l))
    ∗ (eV.view.loc (thr d i) ↦[Finset.univ \ eAll.view.set]{q} tab) ∗ (lV.view.loc (thr d i) ↦[Finset.univ \ (lRow o h).view.set]{ql} l))

variable {defs : Defs nD τ sig (Elt F) Λ₀} {α : Type}

theorem wp_gath (b : Memref sig .scVector .vmem S104x128 .f32) (hb : b.view.set = Finset.univ)
    (hN : ∑ j, (b.slice (S104x128.rowRect gathers_S100000x128_S104x128.axis' j) (S104x128.stride_rowRect gathers_S100000x128_S104x128.axis' j)).view.dmaCredit
      = b.view.dmaCredit)
    (sem : DmaSem sig) (q ql : PosShare TreeShare) (tab : Buf (Elt F) (eV.view.loc (thr d i))) (l : Buf (Elt F) (lV.view.loc (thr d i))) (hl : InR l)
    {ch : ℕ} (hch : ch < 128) {o : Fin 2 → ℕ} (ho : o = ![ch, 0]) (h : ∀ a, o a + S1x104.size a ≤ S128x104.size a)
    (fd : Buf (Elt F) (b.view.loc (thr d i))) {k : PUnit → TP F i α} {Q : α → sProp (MM F)} :
    iprop((b.view.loc (thr d i) ↦{fullShare} fd) ∗ (eV.view.loc (thr d i) ↦{q} tab) ∗ (lV.view.loc (thr d i) ↦{ql} l) ∗ semVal (thr d i, SemLoc.dma sem) 0)
      ⊢ iprop((Going d i b sem q ql tab l ch o h -∗ wp frame (wpE defs 𝒱₀ (thr d i) none) Set.univ (k ⟨⟩) Q)
        -∗ wp frame (wpE defs 𝒱₀ (thr d i) none) Set.univ (gath i b sem o h >>= k) Q) := by
  iintro ⟨Hb, He, Hl, Hs⟩ Hk
  ihave He' := (pointsTo_split_subset (q := q) (f := tab) (S := Finset.univ) (Finset.subset_univ eAll.view.set)).1 $$ He
  icases He' with ⟨He, Her⟩
  ihave Hl' := (pointsTo_split_subset (q := ql) (f := l) (S := Finset.univ) (Finset.subset_univ (lRow o h).view.set)).1 $$ Hl
  icases Hl' with ⟨Hl, Hlr⟩
  iapply (SparseCore.wp_indirectGatherLocal countersEmb 𝒱₀ (thr d i) none (hg := gathers_S100000x128_S104x128) (default : HIx 1)
      b.view.dmaCredit hN (by decide) (hin_lRow d i l hl o h)) $$ [He Hb Hl Hs]
  · isplitl [He]; · iexact He
    isplitl [Hb]
    · rw [hb]; iexact Hb
    isplitl [Hl]; · iexact Hl
    iexact Hs
  iintro Hfl
  iapply Hk
  unfold Going
  iexists fd
  rw [payload_eq d i tab l hl hch ho h]
  isplitl [Hfl]; · iexact Hfl
  isplitl [Her]; · iexact Her
  iexact Hlr

theorem wp_gathWait (b : Memref sig .scVector .vmem S104x128 .f32) (hb : b.view.set = Finset.univ) (hw : b.IsWhole)
    (sem : DmaSem sig) (q ql : PosShare TreeShare) (tab : Buf (Elt F) (eV.view.loc (thr d i))) (l : Buf (Elt F) (lV.view.loc (thr d i)))
    {ch : ℕ} {o : Fin 2 → ℕ} (h : ∀ a, o a + S1x104.size a ≤ S128x104.size a)
    {O : CellTallies nD τ sig (HIx 1)} {W : Waits sig (HIx 1)} {k : PUnit → TP F i α} {Q : α → sProp (MM F)} :
    iprop(Going d i b sem q ql tab l ch o h ∗ owes (thr d i) O W ∗ Transfers.MayWaits (thr d i) (default : HIx 1) O)
      ⊢ iprop((iprop((∃ f, ⌜b.view.read (Elt F) f = gbuf tab l ch⌝ ∗ b.view.loc (thr d i) ↦{fullShare} f) ∗ (eV.view.loc (thr d i) ↦{q} tab)
            ∗ (lV.view.loc (thr d i) ↦{ql} l) ∗ semVal (thr d i, SemLoc.dma sem) 0 ∗ owes (thr d i) O (insert (SemLoc.dma sem, default) W))
          -∗ wp frame (wpE defs 𝒱₀ (thr d i) none) Set.univ (k ⟨⟩) Q)
        -∗ wp frame (wpE defs 𝒱₀ (thr d i) none) Set.univ (gathWait i b hw sem >>= k) Q) := by
  have e : gathWait i b hw sem >>= k = Prog.op (.waitDma2 sem eAll b (View.wordExact_bits rfl) hw.wordExact) k := rfl
  rw [e]
  iintro ⟨HG, HO, Hmw⟩ Hk
  unfold Going
  icases HG with ⟨%fd, Hfl, Her, Hlr⟩
  iapply (Transfers.wp_waitLocalO countersEmb 𝒱₀ (thr d i) none (default : HIx 1) (rfl : b.view.dmaCredit = _)) $$ [Hfl HO Hmw]
  · isplitl [Hfl]; · iexact Hfl
    isplitl [HO]; · iexact HO
    iapply (Transfers.MayWaits.elim (SemLoc.dma sem)) $$ Hmw
  iintro ⟨⟨Hb, He, Hl⟩, Hs, HO⟩
  iapply Hk
  isplitl [Hb]
  · iexists _
    isplitr
    · ipureintro; exact View.read_write_univ (v := b.view) fd (gbuf tab l ch)
    · rw [hb]; iexact Hb
  isplitl [He Her]
  · iapply (pointsTo_split_subset (q := q) (f := tab) (S := Finset.univ) (Finset.subset_univ eAll.view.set)).2 $$ [He Her]
    isplitl [He] <;> iassumption
  isplitl [Hl Hlr]
  · iapply (pointsTo_split_subset (q := ql) (f := l) (S := Finset.univ) (Finset.subset_univ (lRow o h).view.set)).2 $$ [Hl Hlr]
    isplitl [Hl] <;> iassumption
  isplitl [Hs] <;> iassumption

end Cert.Proof.KernelIdeal
-- ==== Proof.Ideal.Tile.lean ====
/-
  A subcore's loop: at each trip two rows of its list gathered, summed and stored.
-/
module

public import proofs.«01_k».proof.Proof.Ideal.Gather

@[expose] public section

noncomputable section

namespace Cert.Proof.KernelIdeal

open Cert.KernelIdeal Cert.KernelIdeal.Facts₀ Cert.KernelIdeal.Facts
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MM F

theorem cond1_iff : ∀ t : Fin k0_t1_loop.trips, k0_cond1 t = 1#1 ↔ t.val + 1 < 64 := by decide +kernel

theorem aV_set : (aV.view.set : Finset S104x128.Idx) = Finset.univ := View.set_whole _
theorem bV_set : (bV.view.set : Finset S104x128.Idx) = Finset.univ := View.set_whole _
theorem aV_credit : ∑ j, (aV.slice (S104x128.rowRect gathers_S100000x128_S104x128.axis' j) (S104x128.stride_rowRect gathers_S100000x128_S104x128.axis' j)).view.dmaCredit
    = aV.view.dmaCredit := by decide
theorem bV_credit : ∑ j, (bV.slice (S104x128.rowRect gathers_S100000x128_S104x128.axis' j) (S104x128.stride_rowRect gathers_S100000x128_S104x128.axis' j)).view.dmaCredit
    = bV.view.dmaCredit := by decide

variable (d : Dev nD) (i : grid0.Coords)

/-- Between trips the first buffer is being filled with list row `2 g`, if there is one. -/
def First (q : PosShare TreeShare) (tab : Buf (Elt F) (eV.view.loc (thr d i))) (l : Buf (Elt F) (lV.view.loc (thr d i))) (g : ℕ) : sProp 𝕄 :=
  if g < 64 then
    iprop(∃ o : { o : Fin 2 → ℕ // ∀ a, o a + S1x104.size a ≤ S128x104.size a },
      Going d i aV cc0_scratch4.sem q.left fullShare.left tab l (2 * g) o.1 o.2)
  else
    iprop((∃ f, aV.view.loc (thr d i) ↦{fullShare} f) ∗ (eV.view.loc (thr d i) ↦{q.left} tab) ∗ (lV.view.loc (thr d i) ↦{fullShare.left} l)
      ∗ semVal (thr d i, SemLoc.dma cc0_scratch4.sem) 0)

/-- Between trips the block's first `4 g` rows are done. -/
def Done (tab : Buf (Elt F) (eV.view.loc (thr d i))) (l : Buf (Elt F) (lV.view.loc (thr d i))) (g : ℕ) : sProp 𝕄 :=
  iprop(∃ f : Buf (Elt F) (rV.view.loc (thr d i)), ⌜∀ y : S256x128.Idx, (y 0).val < 4 * g → f y = res tab l y⌝ ∗ rV.view.loc (thr d i) ↦{fullShare} f)

def Inv (q : PosShare TreeShare) (tab : Buf (Elt F) (eV.view.loc (thr d i))) (l : Buf (Elt F) (lV.view.loc (thr d i)))
    (O : CellTallies nD τ sig (HIx 1)) (W : Waits sig (HIx 1)) (g : ℕ) (_ : Unit) : sProp 𝕄 :=
  iprop(Transfers.MayWaits (thr d i) (default : HIx 1) O
    ∗ First d i q tab l g
    ∗ ((∃ f, bV.view.loc (thr d i) ↦{fullShare} f) ∗ (eV.view.loc (thr d i) ↦{q.right} tab) ∗ (lV.view.loc (thr d i) ↦{fullShare.right} l)
      ∗ semVal (thr d i, SemLoc.dma cc0_scratch5.sem) 0)
    ∗ Done d i tab l g
    ∗ ∃ W', ⌜∀ p ∈ W', p ∈ W ∨ p.2 = none⌝ ∗ owes (thr d i) O W')

/-- Two more chunks' stores: four more rows done. -/
theorem done_step (tab : Buf (Elt F) (eV.view.loc (thr d i))) (l : Buf (Elt F) (lV.view.loc (thr d i))) (t : Fin k0_t1_loop.trips)
    (fa : Buf (Elt F) (aV.view.loc (thr d i))) (fb : Buf (Elt F) (bV.view.loc (thr d i)))
    (ha : aV.view.read (Elt F) fa = gbuf tab l (2 * t.val)) (hb : bV.view.read (Elt F) fb = gbuf tab l (2 * t.val + 1))
    (f : Buf (Elt F) (rV.view.loc (thr d i))) (hf : ∀ y : S256x128.Idx, (y 0).val < 4 * t.val → f y = res tab l y) :
    ∀ y : S256x128.Idx, (y 0).val < 4 * (t.val + 1) →
      rV.view.writes (Elt F) (rV.view.writes (Elt F) f (piecesA d i t fa)) (piecesB d i t fb) y = res tab l y := by
  intro y hy
  rw [piecesA_eq, piecesB_eq]
  have hB := read_pcs d i bV fb (ch := 2 * t.val + 1) (by have := trip_lt t; omega) rV (rV.view.writes (Elt F) f (pcs d i aV fa (ch := 2 * t.val) (by have := trip_lt t; omega))) y
  have hA := read_pcs d i aV fa (ch := 2 * t.val) (by have := trip_lt t; omega) rV f y
  rw [hA, hb, ha] at hB
  refine Eq.trans hB ?_
  unfold res
  split
  · next h => rw [h]
  split
  · next h => rw [h]
  · next h h' => exact hf y (by omega)

theorem wp_trip (q : PosShare TreeShare) (tab : Buf (Elt F) (eV.view.loc (thr d i))) (l : Buf (Elt F) (lV.view.loc (thr d i))) (hl : InR l)
    (O : CellTallies nD τ sig (HIx 1)) (W : Waits sig (HIx 1)) (t : Fin k0_t1_loop.trips) (u : Unit) :
    Inv d i q tab l O W t.val u
      ⊢ wp frame (wpE (defs₀ (F := F)) 𝒱₀ (thr d i) none) Set.univ (TBody (F := F) i t u) (Inv d i q tab l O W (t.val + 1)) := by
  have ht := trip_lt t
  obtain ⟨p1, p2, p3, e1, s1, e2, e2', s2⟩ := trip_steps (F := F) d i t
  rw [show TBody (F := F) i t u = _ from e1]
  unfold Inv First Done
  rw [if_pos ht]
  iintro ⟨#Hmw, ⟨%o, HA⟩, ⟨⟨%fb, Hb⟩, He, Hl, Hs⟩, ⟨%f, %hf, Hr⟩, %W', %hW', HO⟩
  iapply (wp_gath d i bV bV_set bV_credit cc0_scratch5.sem q.right fullShare.right tab l hl (ch := 2 * t.val + 1) (by omega) (Gen.k0_off2_eq t) (k0_off2_inb t) fb) $$ [Hb He Hl Hs]
  · isplitl [Hb]; · iexact Hb
    isplitl [He]; · iexact He
    isplitl [Hl] <;> iassumption
  iintro HB
  iapply (wp_gathWait d i aV aV_set (Memref.isWhole_whole _) cc0_scratch4.sem q.left fullShare.left tab l o.2) $$ [HA HO]
  · isplitl [HA]; · iexact HA
    isplitl [HO]; · iexact HO
    iexact Hmw
  iintro ⟨⟨%fa, %ha, Ha⟩, He, Hl, Hs, HO⟩
  iapply (Steps.wp 𝒱₀ (thr d i) none Set.univ (s1 fa) f) $$ [Ha Hr]
  · isplitl [Ha]; · iexact Ha
    iexact Hr
  iintro Ha Hr
  by_cases hc : k0_cond1 t = 1#1
  · have hc' := (cond1_iff t).mp hc
    rw [e2 fa hc, if_pos hc']
    iapply (wp_gath d i aV aV_set aV_credit cc0_scratch4.sem q.left fullShare.left tab l hl (ch := 2 * (t.val + 1)) (by omega) (Gen.k0_off12_eq t) (k0_off12_inb t hc) fa) $$ [Ha He Hl Hs]
    · isplitl [Ha]; · iexact Ha
      isplitl [He]; · iexact He
      isplitl [Hl] <;> iassumption
    iintro HA
    iapply (wp_gathWait d i bV bV_set (Memref.isWhole_whole _) cc0_scratch5.sem q.right fullShare.right tab l (k0_off2_inb t)) $$ [HB HO]
    · isplitl [HB]; · iexact HB
      isplitl [HO]; · iexact HO
      iexact Hmw
    iintro ⟨⟨%fb', %hb, Hb⟩, He, Hl, Hs, HO⟩
    iapply (Steps.wp 𝒱₀ (thr d i) none Set.univ (s2 fa fb') (rV.view.writes (Elt F) f (piecesA d i t fa))) $$ [Hb Hr]
    · isplitl [Hb]; · iexact Hb
      iexact Hr
    iintro Hb Hr
    rw [wp_ret]
    imodintro
    isplitr; · iexact Hmw
    isplitl [HA]
    · iexists ⟨_, k0_off12_inb t hc⟩; iexact HA
    isplitl [Hb He Hl Hs]
    · isplitl [Hb]; · iexists _; iexact Hb
      isplitl [He]; · iexact He
      isplitl [Hl] <;> iassumption
    isplitl [Hr]
    · iexists _
      isplitr; swap; · iexact Hr
      ipureintro; exact done_step d i tab l t fa fb' ha hb f hf
    iexists _
    isplitr; swap; · iexact HO
    ipureintro
    intro p hp
    rcases Finset.mem_insert.mp hp with hp | hp; · exact .inr (hp ▸ rfl)
    rcases Finset.mem_insert.mp hp with hp | hp; · exact .inr (hp ▸ rfl)
    exact hW' p hp
  · have hc' := fun h => hc ((cond1_iff t).mpr h)
    rw [e2' fa hc, if_neg hc']
    iapply (wp_gathWait d i bV bV_set (Memref.isWhole_whole _) cc0_scratch5.sem q.right fullShare.right tab l (k0_off2_inb t)) $$ [HB HO]
    · isplitl [HB]; · iexact HB
      isplitl [HO]; · iexact HO
      iexact Hmw
    iintro ⟨⟨%fb', %hb, Hb⟩, He', Hl', Hs', HO⟩
    iapply (Steps.wp 𝒱₀ (thr d i) none Set.univ (s2 fa fb') (rV.view.writes (Elt F) f (piecesA d i t fa))) $$ [Hb Hr]
    · isplitl [Hb]; · iexact Hb
      iexact Hr
    iintro Hb Hr
    rw [wp_ret]
    imodintro
    isplitr; · iexact Hmw
    isplitl [Ha He Hl Hs]
    · isplitl [Ha]; · iexists _; iexact Ha
      isplitl [He]; · iexact He
      isplitl [Hl] <;> iassumption
    isplitl [Hb He' Hl' Hs']
    · isplitl [Hb]; · iexists _; iexact Hb
      isplitl [He']; · iexact He'
      isplitl [Hl'] <;> iassumption
    isplitl [Hr]
    · iexists _
      isplitr; swap; · iexact Hr
      ipureintro; exact done_step d i tab l t fa fb' ha hb f hf
    iexists _
    isplitr; swap; · iexact HO
    ipureintro
    intro p hp
    rcases Finset.mem_insert.mp hp with hp | hp; · exact .inr (hp ▸ rfl)
    rcases Finset.mem_insert.mp hp with hp | hp; · exact .inr (hp ▸ rfl)
    exact hW' p hp

end Cert.Proof.KernelIdeal
-- ==== Proof.Ideal.Task.lean ====
/-
  A subcore's whole task: its list fetched, the loop, its block of sums written out.
-/
module

public import proofs.«01_k».proof.Proof.Ideal.Tile

@[expose] public section

noncomputable section

namespace Cert.Proof.KernelIdeal

open Cert.KernelIdeal Cert.KernelIdeal.Facts₀ Cert.KernelIdeal.Facts
open Idealize.ShloMosaic Idealize.ShloMosaic.ValueIdx
open Idealize.ShloMosaic.SparseCore (S V T)
open Idealize.ShloMosaic.SparseCore.Cfg (HIx ownBufs ownRefs ownSems0 ownCells mem_ownCells)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MM F

/-! ## Worker `w`'s parts of the index array and of the sums -/

theorem idiv : 32 ∣ S32x128x104.size 0 := ⟨1, rfl⟩
theorem odiv : 32 ∣ S8192x128.size 0 := ⟨256, rfl⟩
abbrev ipart (w : Fin 32) : Rect S32x128x104 := Rect.part (s := S32x128x104) (a₀ := 0) idiv w
abbrev opart (w : Fin 32) : Rect S8192x128 := Rect.part (s := S8192x128) (a₀ := 0) odiv w
abbrev iSet (w : Fin 32) : Finset S32x128x104.Idx := (iV.view.slice (ipart w)).set
abbrev oSet (w : Fin 32) : Finset S8192x128.Idx := (oV.view.slice (opart w)).set

abbrev eLoc (d : Dev nD) : Loc nD τ sig := (SparseCore.T d).loc main_arg2
abbrev iLoc (d : Dev nD) : Loc nD τ sig := (SparseCore.T d).loc main_v4
abbrev oLoc (d : Dev nD) : Loc nD τ sig := (SparseCore.T d).loc main_v5

variable (d : Dev nD) (i : grid0.Coords)

/-- The worker of a grid position. -/
def wid : Fin 32 := ⟨2 * (i 1).val + (i 0).val, by
  have h1 : (i 1).val < 16 := (i 1).isLt
  have h0 : (i 0).val < 2 := (i 0).isLt
  omega⟩

/-- The parts as the body addresses them. -/
abbrev iSl : Memref sig .scVector .hbm S128x104 .i32 :=
  (iV.slice (Rect.unit (s := S32x128x104) (k0_off1 i) S1x128x104.size (k0_off1_inb i)) (fun _ => rfl)).squeeze S128x104 squeezes_S1x128x104_S128x104
abbrev oSl : Memref sig .scVector .hbm S256x128 .f32 :=
  oV.slice (Rect.unit (s := S8192x128) (k0_off21 i) S256x128.size (k0_off21_inb i)) (fun _ => rfl)

theorem irect_eq : Rect.unit (s := S32x128x104) (k0_off1 i) S1x128x104.size (k0_off1_inb i) = ipart (wid i) := by
  unfold ipart Rect.part Rect.block
  congr 1 <;> funext a
  · rw [Gen.k0_off1_eq]
    match a with
    | 0 => simp [Shape.partIx, Shape.partSize, wid]
    | 1 => simp [Shape.partIx, Shape.partSize]
    | 2 => simp [Shape.partIx, Shape.partSize]
  · match a with
    | 0 => simp [Shape.partSize]
    | 1 => simp [Shape.partSize]
    | 2 => simp [Shape.partSize]

theorem orect_eq : Rect.unit (s := S8192x128) (k0_off21 i) S256x128.size (k0_off21_inb i) = opart (wid i) := by
  unfold opart Rect.part Rect.block
  congr 1 <;> funext a
  · rw [Gen.k0_off21_eq]
    match a with
    | 0 => simp [Shape.partIx, Shape.partSize, wid]; omega
    | 1 => simp [Shape.partIx, Shape.partSize]
  · match a with
    | 0 => simp [Shape.partSize]
    | 1 => simp [Shape.partSize]

theorem iset_congr {r r' : Rect S32x128x104} (h : r = r') : (iV.view.slice r).set = (iV.view.slice r').set := by subst h; rfl
theorem oset_congr {r r' : Rect S8192x128} (h : r = r') : (oV.view.slice r).set = (oV.view.slice r').set := by subst h; rfl
theorem set_iSl : (iSl i).view.set = iSet (wid i) := by
  show ((iV.view.slice (Rect.unit (s := S32x128x104) (k0_off1 i) S1x128x104.size (k0_off1_inb i))).reshape S128x104 squeezes_S1x128x104_S128x104.numel_eq).set = _
  rw [View.set_reshape]
  exact iset_congr (irect_eq i)
theorem set_oSl : (oSl i).view.set = oSet (wid i) := by
  show (oV.view.slice (Rect.unit (s := S8192x128) (k0_off21 i) S256x128.size (k0_off21_inb i))).set = _
  exact oset_congr (orect_eq i)

theorem pts_iSl (f : Buf (Elt F) (iLoc d)) :
    ((iSl i).view.loc (thr d i) ↦[(iSl i).view.set]{fullShare} f : sProp 𝕄) = iLoc d ↦[iSet (wid i)]{fullShare} f := by rw [set_iSl]
theorem pts_oSl (f : Buf (Elt F) (oLoc d)) :
    ((oSl i).view.loc (thr d i) ↦[(oSl i).view.set]{fullShare} f : sProp 𝕄) = oLoc d ↦[oSet (wid i)]{fullShare} f := by rw [set_oSl]
theorem pts_eV (q : PosShare TreeShare) (f : Buf (Elt F) (eLoc d)) :
    (eV.view.loc (thr d i) ↦{q} f : sProp 𝕄) = eLoc d ↦{q} f := rfl

/-- Worker `w`'s list: its part of the index array. -/
def lst (iv : S32x128x104.Idx → Elt F .i32) (w : Fin 32) : S128x104.Idx → Elt F .i32 := fun y => iv (ix3 w (y 0) (y 1))

theorem read_iSl (iv : Buf (Elt F) (iLoc d)) : (iSl i).view.read (Elt F) (iv : Buf (Elt F) ((iSl i).view.loc (thr d i))) = lst iv (wid i) := by
  funext y
  change shapeCast S128x104 (iV.view.readAt (Elt F) (Rect.unit (s := S32x128x104) (k0_off1 i) S1x128x104.size (k0_off1_inb i)).toLoadRect iv) squeezes_S1x128x104_S128x104.numel_eq y = _
  refine (shapeCast_dropUnit_apply ![128, 104] _ _ y).trans ?_
  change iv ((Rect.unit (s := S32x128x104) (k0_off1 i) S1x128x104.size (k0_off1_inb i)).emb _) = _
  refine congrArg iv (Rect.emb_eq_of_coords _ _ _ fun a => ?_)
  have e := Gen.k0_off1_eq i
  match a with
  | ⟨0, _⟩ => simp [e, wid]; rfl
  | ⟨1, _⟩ => simp [e]; rfl
  | ⟨2, _⟩ => simp [e]; rfl

/-- Worker `w`'s part of the index array, a share of the table, worker `w`'s block of the sums. -/
abbrev iPts (w : Fin 32) (iv : S32x128x104.Idx → Elt F .i32) : sProp 𝕄 := iLoc d ↦[iSet w]{fullShare} (iv : Buf (Elt F) (iLoc d))
abbrev ePts (q : PosShare TreeShare) (tab : S100000x128.Idx → Elt F .f32) : sProp 𝕄 := eLoc d ↦{q} (tab : Buf (Elt F) (eLoc d))
abbrev oPts (w : Fin 32) (f : S8192x128.Idx → Elt F .f32) : sProp 𝕄 := oLoc d ↦[oSet w]{fullShare} (f : Buf (Elt F) (oLoc d))

variable [FloatOps F] [Named F]

/-- The block as the body leaves it is worker `wid`'s block of the sums. -/
theorem block_eq (tab : S100000x128.Idx → Elt F .f32) (iv : S32x128x104.Idx → Elt F .i32) (fo : Buf (Elt F) (oLoc d))
    (p : S256x128.Idx → Elt F .f32) (hp : p = res tab (lst iv (wid i))) :
    (oLoc d ↦[oSet (wid i)]{fullShare} (View.write (Elt F) (oSl i).view fo p Finset.univ) : sProp 𝕄)
      = oLoc d ↦[oSet (wid i)]{fullShare} (pooled tab iv : Buf (Elt F) (oLoc d)) := by
  refine pointsTo_congr fun j hj => ?_
  rw [← set_oSl] at hj
  obtain ⟨y, -, rfl⟩ := Finset.mem_map.mp hj
  refine (View.write_emb_of_mem (v := (oSl i).view) fo p (Finset.mem_univ y)).trans ?_
  have e : (oSl i).view.emb y = (ix2 (n0 := 8192) (n1 := 128) ⟨256 * (wid i).val + (y 0).val, by
      have h0 : (y 0).val < 256 := (y 0).isLt
      have := (wid i).isLt; omega⟩ (y 1)) := by
    refine Rect.emb_eq_of_coords _ _ _ fun a => ?_
    have e := Gen.k0_off21_eq i
    match a with
    | ⟨0, _⟩ => simp [e, wid]; omega
    | ⟨1, _⟩ => simp [e]
  rw [e, hp]
  have h0 : (y 0).val < 256 := (y 0).isLt
  have hw := (wid i).isLt
  have e1 : (Fin.ofNat 32 ((256 * (wid i).val + (y 0).val) / 256)) = wid i := Fin.ext (by simp [Fin.ofNat]; omega)
  have e2 : (Fin.ofNat 256 ((256 * (wid i).val + (y 0).val) % 256)) = (y 0 : Fin 256) := Fin.ext (by simp [Fin.ofNat]; omega)
  change res tab (lst iv (wid i)) y = res tab (lst iv (Fin.ofNat 32 ((256 * (wid i).val + (y 0).val) / 256))) (ix2 (Fin.ofNat 256 ((256 * (wid i).val + (y 0).val) % 256)) (y 1))
  rw [e1, e2]
  exact congrArg _ (eq_ix2 y)

/-! ## The subcore's own buffers and semaphores -/

abbrev cV : Fin τ.nSC := (i 0).castLE hcore0
abbrev jV : Fin τ.nSub := (i 1).castLE hsub0

/-- The list's fetch, the two gathers' and the write-out's semaphores. -/
abbrev lSem : SemLoc sig := .dma cc0_scoped0.sem
abbrev aSem : SemLoc sig := .dma cc0_scratch4.sem
abbrev bSem : SemLoc sig := .dma cc0_scratch5.sem
abbrev oSem : SemLoc sig := .dma cc0_scoped1.sem

omit [FloatOps F] [Named F] in
theorem own_sems :
    (ownSems0 (thr d i) : sProp 𝕄)
      = iprop(semVal (thr d i, lSem) 0 ∗ semVal (thr d i, aSem) 0 ∗ semVal (thr d i, bSem) 0 ∗ semVal (thr d i, oSem) 0
          ∗ bigSep (((((ownCells (thr d i)).erase (thr d i, lSem)).erase (thr d i, aSem)).erase (thr d i, bSem)).erase (thr d i, oSem)) fun g => semVal g 0) := by
  have hm (s : SemLoc sig) (hs : s.isScoped .scVector = true) : (thr d i, s) ∈ ownCells (thr d i) := mem_ownCells.mpr ⟨rfl, hs⟩
  have ne {s s' : SemLoc sig} (h : s ≠ s') : ((thr d i, s) : GSem nD τ sig) ≠ (thr d i, s') := fun e => h (Prod.ext_iff.mp e).2
  unfold SparseCore.Cfg.ownSems0
  rw [SparseCore.bigSep_erase' (hm lSem (by decide)),
    SparseCore.bigSep_erase' (Finset.mem_erase.mpr ⟨ne (show aSem ≠ lSem by decide), hm aSem (by decide)⟩),
    SparseCore.bigSep_erase' (Finset.mem_erase.mpr ⟨ne (show bSem ≠ aSem by decide), Finset.mem_erase.mpr ⟨ne (show bSem ≠ lSem by decide), hm bSem (by decide)⟩⟩),
    SparseCore.bigSep_erase' (Finset.mem_erase.mpr ⟨ne (show oSem ≠ bSem by decide), Finset.mem_erase.mpr ⟨ne (show oSem ≠ aSem by decide),
      Finset.mem_erase.mpr ⟨ne (show oSem ≠ lSem by decide), hm oSem (by decide)⟩⟩⟩)]

omit [FloatOps F] [Named F] in
theorem own_bufs :
    (ownBufs (thr d i) : sProp 𝕄)
      = iprop((∃ f, lV.view.loc (thr d i) ↦{fullShare} f) ∗ (∃ f, aV.view.loc (thr d i) ↦{fullShare} f)
          ∗ (∃ f, bV.view.loc (thr d i) ↦{fullShare} f) ∗ (∃ f, rV.view.loc (thr d i) ↦{fullShare} f)
          ∗ bigSep (((((ownRefs (τ := τ) (thr d i).2).erase ((thr d i).2.devRef cc0_scratch0)).erase ((thr d i).2.devRef cc0_scratch1)).erase
              ((thr d i).2.devRef cc0_scratch2)).erase ((thr d i).2.devRef cc0_scratch3))
              fun b => iprop(∃ f, ((d, b) : Loc nD τ sig) ↦{fullShare} f)) := by
  have hm (b : Ref sig .scVector) (hb : ((thr d i).2.devRef b).owner = .proc (thr d i).2) : (thr d i).2.devRef b ∈ ownRefs (τ := τ) (thr d i).2 :=
    SparseCore.Cfg.mem_ownRefs_of_owner hb
  have ne {b b' : Ref sig .scVector} (h : b ≠ b') : (thr d i).2.devRef b ≠ (thr d i).2.devRef b' := fun e => h (Proc.devRef_injective _ e)
  unfold SparseCore.Cfg.ownBufs
  refine (SparseCore.bigSep_erase' (hm cc0_scratch0 rfl)).trans ?_
  rw [SparseCore.bigSep_erase' (Finset.mem_erase.mpr ⟨ne (show (cc0_scratch1 : Ref sig .scVector) ≠ cc0_scratch0 by decide), hm cc0_scratch1 rfl⟩),
    SparseCore.bigSep_erase' (Finset.mem_erase.mpr ⟨ne (show (cc0_scratch2 : Ref sig .scVector) ≠ cc0_scratch1 by decide),
      Finset.mem_erase.mpr ⟨ne (show (cc0_scratch2 : Ref sig .scVector) ≠ cc0_scratch0 by decide), hm cc0_scratch2 rfl⟩⟩),
    SparseCore.bigSep_erase' (Finset.mem_erase.mpr ⟨ne (show (cc0_scratch3 : Ref sig .scVector) ≠ cc0_scratch2 by decide),
      Finset.mem_erase.mpr ⟨ne (show (cc0_scratch3 : Ref sig .scVector) ≠ cc0_scratch1 by decide),
        Finset.mem_erase.mpr ⟨ne (show (cc0_scratch3 : Ref sig .scVector) ≠ cc0_scratch0 by decide), hm cc0_scratch3 rfl⟩⟩⟩)]

set_option maxHeartbeats 4000000 in
/-- The whole task at a symbolic grid position. -/
theorem wp_task (hF : (K (F := F)).Facts) (q : PosShare TreeShare) (tab : S100000x128.Idx → Elt F .f32) (iv : S32x128x104.Idx → Elt F .i32)
    (hiv : ∀ x, BitVec.toNat (iv x) < 100000) (fo : Buf (Elt F) (oLoc d))
    (O : CellTallies nD τ sig (HIx 1)) (W : Waits sig (HIx 1)) (hO : ∀ g, O g none = 0) :
    iprop(levAts (K (F := F)).L (K (F := F)).lev ∗ emp
        ∗ (iPts d (wid i) iv ∗ ePts d q tab ∗ oPts d (wid i) fo)
        ∗ scopedBufs (thr d i) ∗ scopedSems0 (thr d i) ∗ owes (thr d i) O W)
      ⊢ wp frame (wpE (defs₀ (F := F)) 𝒱₀ (thr d i) none) Set.univ
          (cc0__sc_pool_body i eV (Memref.isWhole_whole _) iV (Memref.isWhole_whole _) oV (Memref.isWhole_whole _)
            lV (Memref.isWhole_whole _) aV (Memref.isWhole_whole _) bV (Memref.isWhole_whole _) rV (Memref.isWhole_whole _)
            cc0_scratch4 cc0_scratch5 cc0_scoped0 cc0_scoped1)
          fun _ => iprop((iPts d (wid i) iv ∗ ePts d q tab
              ∗ oPts d (wid i) (pooled tab iv))
            ∗ scopedBufs (thr d i) ∗ scopedSems0 (thr d i)
            ∗ ∃ W', ⌜∀ p ∈ W', p ∈ W ∨ p.2 = none⌝ ∗ owes (thr d i) O W') := by
  have hl : InR (lst iv (wid i)) := fun x => hiv _
  simp only [Gen.cc0__sc_pool_body_eq_skeleton]; unfold Gen.cc0__sc_pool_body_skel
  rw [(K (F := F)).scopedBufs_V hF d (cV i) (jV i), SparseCore.Cfg.scopedSems0_V (Val := Elt F) d (cV i) (jV i), own_sems, own_bufs]
  iintro ⟨#Hlv, -, ⟨Hi, He, Ho⟩, ⟨⟨%fl, Hl⟩, ⟨%fa, Ha⟩, ⟨%fb, Hb⟩, ⟨%fr, Hr⟩, Hbufs⟩, ⟨Hsl, Hsa, Hsb, Hso, Hsems⟩, HO⟩
  ihave #Hmw := (show levAts (K (F := F)).L (K (F := F)).lev ⊢ Transfers.MayWaits (thr d i) (default : HIx 1) O from
    (K (F := F)).mayWaits_none (thr := thr d i) hO) $$ Hlv
  ihave Hi' := (Entails.of_eq (pts_iSl (F := F) d i _).symm) $$ Hi
  ihave Ho' := (Entails.of_eq (pts_oSl (F := F) d i _).symm) $$ Ho
  ihave He' := (Entails.of_eq (pts_eV (F := F) d i _ _).symm) $$ He
  sl_exec
  have hlst : View.write (Elt F) lV.view fl (wp_task.sl.dma0 i iv) Finset.univ = lst iv (wid i) :=
    (View.write_whole_univ _ _ _).trans (read_iSl d i iv)
  rw [hlst]
  ihave He2 := (pointsTo_share (PosShare.mem_left_op_right q)).1 $$ He'
  icases He2 with ⟨He1, He2⟩
  ihave Hl2 := (pointsTo_share (PosShare.mem_left_op_right fullShare)).1 $$ Hl
  icases Hl2 with ⟨Hl1, Hl2⟩
  iapply (wp_gath d i aV aV_set aV_credit cc0_scratch4.sem q.left fullShare.left tab (lst iv (wid i)) hl (ch := 0) (by decide) rfl inb_S128x104_S1x104_0_0 fa) $$ [Ha He1 Hl1 Hsa]
  · isplitl [Ha]; · iexact Ha
    isplitl [He1]; · iexact He1
    isplitl [Hl1] <;> iassumption
  iintro HA
  iapply (Scf.wp_for_bind frame (wpE (defs₀ (F := F)) 𝒱₀ (thr d i) none) Set.univ _ _ _ _ _ _
    (Inv d i q tab (lst iv (wid i)) O (insert (lSem, default) W)) (fun t u => wp_trip d i q tab _ hl O _ t u)) $$ [HA Hb He2 Hl2 Hsb Hr HO]
  · unfold Inv First Done
    rw [if_pos (by decide)]
    isplitr; · iexact Hmw
    isplitl [HA]; · iexists ⟨![0, 0], inb_S128x104_S1x104_0_0⟩; iexact HA
    isplitl [Hb He2 Hl2 Hsb]
    · isplitl [Hb]; · iexists _; iexact Hb
      isplitl [He2]; · iexact He2
      isplitl [Hl2] <;> iassumption
    isplitl [Hr]
    · iexists _
      isplitr; swap; · iexact Hr
      ipureintro; intro y hy; exact absurd hy (by omega)
    iexists _
    isplitr; swap; · iexact HO
    ipureintro; exact fun p hp => .inl hp
  iintro %u
  unfold Inv First Done
  rw [if_neg (show ¬ k0_t1_loop.trips < 64 by decide)]
  iintro ⟨-, ⟨⟨%fa', Ha⟩, He1, Hl1, Hsa⟩, ⟨⟨%fb', Hb⟩, He2, Hl2, Hsb⟩, ⟨%f, %hf, Hr⟩, %W', %hW', HO⟩
  ihave He := (pointsTo_share (PosShare.mem_left_op_right q)).2 $$ [He1 He2]; · isplitl [He1] <;> iassumption
  ihave Hl := (pointsTo_share (PosShare.mem_left_op_right fullShare)).2 $$ [Hl1 Hl2]; · isplitl [Hl1] <;> iassumption
  sl_exec
  sl_step
  isplitl [Hi' He Ho']
  · isplitl [Hi']; · iapply (Entails.of_eq (pts_iSl (F := F) d i _)); iexact Hi'
    isplitl [He]; · iexact He
    rw [← View.write_univ_eq_writes_whole (oSl i).view fo []]
    iapply (Entails.of_eq (block_eq d i tab iv fo _ (funext fun y => hf y (by have h : (y 0).val < 256 := (y 0).isLt; exact h))))
    iapply (Entails.of_eq (pts_oSl (F := F) d i _))
    iexact Ho'
  isplitl [Hl Ha Hb Hr Hbufs]
  · isplitl [Hl]; · iexists _; iexact Hl
    isplitl [Ha]; · iexists _; iexact Ha
    isplitl [Hb]; · iexists _; iexact Hb
    isplitl [Hr]; · iexists _; iexact Hr
    iexact Hbufs
  isplitl [Hsl Hsa Hsb Hso Hsems]
  · isplitl [Hsl]; · iexact Hsl
    isplitl [Hsa]; · iexact Hsa
    isplitl [Hsb]; · iexact Hsb
    isplitl [Hso]; · iexact Hso
    iexact Hsems
  iexists _; isplitr
  swap; · iexact HO
  ipureintro; intro p hp
  rcases Finset.mem_insert.mp hp with hp | hp; · exact .inr (hp ▸ rfl)
  rcases hW' p hp with hp | hp
  · rcases Finset.mem_insert.mp hp with hp | hp; · exact .inr (hp ▸ rfl)
    exact .inl hp
  · exact .inr hp

end Cert.Proof.KernelIdeal
-- ==== Proof.Ideal.Launch.lean ====
/-
  The launch of the SparseCore call: what each subcore is handed, and how the whole arrays split among
  the thirty-two workers and join again.
-/
module

public import proofs.«01_k».proof.Proof.Ideal.Task
public import Idealize.ShloMosaic.Lib.Transfers

@[expose] public section

noncomputable section

namespace Cert.Proof.KernelIdeal

open Cert.KernelIdeal Cert.KernelIdeal.Facts₀ Cert.KernelIdeal.Facts
open Idealize.ShloMosaic Idealize.ShloMosaic.ValueIdx
open Idealize.ShloMosaic.SparseCore (S V T)
open Idealize.ShloMosaic.SparseCore.Cfg (HIx ownBufs ownRefs ownSems0 ownCells mem_ownCells)
open Idealize.ShloMosaic.Transfers (shareDrop shareTok pointsTo_toks)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MM F

/-! ## The workers as pairs of a SparseCore and a subcore -/

/-- Worker `2 * s + c` is subcore `s` of SparseCore `c`. -/
def pairE : Fin 2 × Fin 16 ≃ Fin 32 where
  toFun p := ⟨2 * p.2.val + p.1.val, by omega⟩
  invFun w := (⟨w.val % 2, by omega⟩, ⟨w.val / 2, by omega⟩)
  left_inv p := by
    obtain ⟨a, b⟩ := p
    refine Prod.ext (Fin.ext ?_) (Fin.ext ?_) <;> simp <;> omega
  right_inv w := by
    refine Fin.ext ?_
    simp; omega

theorem bigSep_workers (Φ : Fin 32 → sProp 𝕄) :
    bigSep Finset.univ Φ = bigSep Finset.univ fun c : Fin 2 => bigSep Finset.univ fun s : Fin 16 => Φ (pairE (c, s)) := by
  rw [bigSep_univ_equiv pairE, bigSep_univ_prod]

theorem bigSep_subs (Φ : Fin 16 → sProp 𝕄) :
    (bigSep Finset.univ fun s : Fin ((K (F := F)).nSub 0) => Φ (Fin.cast nSub_zero s)) = bigSep Finset.univ Φ :=
  bigSep_congr fun _ _ => congrArg Φ (Fin.ext rfl)

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-! ## The whole arrays as the workers' parts -/

theorem iSet_part (w : Fin 32) : iSet w = (ipart w).set := by
  show ((View.whole (main_v4_scv : Ref sig .scVector)).slice (ipart w)).set = _
  rw [View.set_slice]; exact Finset.map_refl
theorem oSet_part (w : Fin 32) : oSet w = (opart w).set := by
  show ((View.whole (main_v5_scv : Ref sig .scVector)).slice (opart w)).set = _
  rw [View.set_slice]; exact Finset.map_refl

theorem iSets_apart : ∀ v ∈ (Finset.univ : Finset (Fin 32)), ∀ w ∈ (Finset.univ : Finset (Fin 32)), v ≠ w → Disjoint (iSet v) (iSet w) :=
  fun v _ w _ h => by rw [iSet_part, iSet_part]; exact Rect.part_disjoint idiv h
theorem oSets_apart : ∀ v ∈ (Finset.univ : Finset (Fin 32)), ∀ w ∈ (Finset.univ : Finset (Fin 32)), v ≠ w → Disjoint (oSet v) (oSet w) :=
  fun v _ w _ h => by rw [oSet_part, oSet_part]; exact Rect.part_disjoint odiv h
theorem iSets_all : (Finset.univ : Finset (Fin 32)).biUnion iSet = Finset.univ :=
  (Finset.biUnion_congr rfl fun w _ => iSet_part w).trans (Rect.biUnion_part idiv)
theorem oSets_all : (Finset.univ : Finset (Fin 32)).biUnion oSet = Finset.univ :=
  (Finset.biUnion_congr rfl fun w _ => oSet_part w).trans (Rect.biUnion_part odiv)

theorem iPts_all (d : Dev nD) (f : Buf (Elt F) (iLoc d)) :
    (iLoc d ↦{fullShare} f : sProp 𝕄) = bigSep Finset.univ fun w : Fin 32 => iPts d w f := by
  rw [← pointsTo_biUnion Finset.univ (ℓ := iLoc d) iSet iSets_apart, iSets_all]; try rfl
theorem oPts_all (d : Dev nD) (f : Buf (Elt F) (oLoc d)) :
    (oLoc d ↦{fullShare} f : sProp 𝕄) = bigSep Finset.univ fun w : Fin 32 => oPts d w f := by
  rw [← pointsTo_biUnion Finset.univ (ℓ := oLoc d) oSet oSets_apart, oSets_all]; try rfl

/-! ## What the handshakes carry -/

variable (m : (ℓ : Loc nD τ sig) → Buf (Elt F) ℓ) (iv : Dev nD → S32x128x104.Idx → Elt F .i32)

/-- The table at launch. -/
abbrev tab (d : Dev nD) : S100000x128.Idx → Elt F .f32 := m (eLoc d)

/-- Worker `w`'s pieces, its block of the sums at `f`. -/
def wPts (d : Dev nD) (w : Fin 32) (f : S8192x128.Idx → Elt F .f32) : sProp 𝕄 :=
  iprop(iPts d w (iv d) ∗ ePts d (shareTok fullShare 32 w) (tab m d) ∗ oPts d w f)

instance wPts_storable (d : Dev nD) (w : Fin 32) (f : S8192x128.Idx → Elt F .f32) :
    BI.Storable (upEmb : UEmb _ 𝕄) (wPts m iv d w f) := by unfold wPts; infer_instance

/-- A SparseCore's pieces: those of its sixteen workers. -/
def cPts (d : Dev nD) (c : Fin 2) (f : S8192x128.Idx → Elt F .f32) : sProp 𝕄 :=
  bigSep Finset.univ fun s : Fin 16 => wPts m iv d (pairE (c, s)) f

instance cPts_storable (d : Dev nD) (c : Fin 2) (f : S8192x128.Idx → Elt F .f32) :
    BI.Storable (upEmb : UEmb _ 𝕄) (cPts m iv d c f) := by unfold cPts; infer_instance

/-- All the pieces are the three arrays, a remainder of the table's share kept back. -/
theorem parts_all (d : Dev nD) (f : S8192x128.Idx → Elt F .f32) :
    (bigSep Finset.univ fun c : Fin 2 => cPts m iv d c f)
      = iprop((iLoc d ↦{fullShare} (iv d : Buf (Elt F) (iLoc d)))
        ∗ (bigSep Finset.univ fun w : Fin 32 => ePts d (shareTok fullShare 32 w) (tab m d))
        ∗ oLoc d ↦{fullShare} (f : Buf (Elt F) (oLoc d))) := by
  unfold cPts
  rw [← bigSep_workers (fun w => wPts m iv d w f)]
  unfold wPts
  rw [bigSep_sep', bigSep_sep', iPts_all, oPts_all]

variable [FloatOps F] [Named F]

/-- The sums of all segments. -/
abbrev sums (d : Dev nD) : S8192x128.Idx → Elt F .f32 := pooled (tab m d) (iv d)

def P : (K (F := F)).Pay (nD := nD) (Val := Elt F) (Name := ℕ) (U := UU) where
  st := fun q d c => match q with | 0 => cPts m iv d (Fin.cast nCore_zero c) (m (oLoc d))
  dn := fun q d c => match q with | 0 => cPts m iv d (Fin.cast nCore_zero c) (sums m iv d)
  go := fun q d c s => match q with | 0 => wPts m iv d (pairE (Fin.cast nCore_zero c, Fin.cast nSub_zero s)) (m (oLoc d))
  td := fun q d c s => match q with | 0 => wPts m iv d (pairE (Fin.cast nCore_zero c, Fin.cast nSub_zero s)) (sums m iv d)
  x := fun _ _ => iprop(emp)

instance P_storable : (P (F := F) m iv).IsStorable where
  st q d c := match q with | 0 => cPts_storable m iv d (Fin.cast nCore_zero c) (m (oLoc d))
  dn q d c := match q with | 0 => cPts_storable m iv d (Fin.cast nCore_zero c) (sums m iv d)
  go q d c s := match q with | 0 => wPts_storable m iv d (pairE (Fin.cast nCore_zero c, Fin.cast nSub_zero s)) (m (oLoc d))
  td q d c s := match q with | 0 => wPts_storable m iv d (pairE (Fin.cast nCore_zero c, Fin.cast nSub_zero s)) (sums m iv d)

theorem vecSplit : (K (F := F)).VecSplit' (P m iv) 0 := by
  intro d c
  show cPts m iv d (Fin.cast nCore_zero c) (m (oLoc d)) ⊢ |={Set.univ}=> iprop(
      (bigSep Finset.univ fun s : Fin ((K (F := F)).nSub 0) => wPts m iv d (pairE (Fin.cast nCore_zero c, Fin.cast nSub_zero s)) (m (oLoc d)))
      ∗ ((bigSep Finset.univ fun s : Fin ((K (F := F)).nSub 0) => wPts m iv d (pairE (Fin.cast nCore_zero c, Fin.cast nSub_zero s)) (sums m iv d))
          -∗ cPts m iv d (Fin.cast nCore_zero c) (sums m iv d)))
  rw [bigSep_subs (fun s => wPts m iv d (pairE (Fin.cast nCore_zero c, s)) (m (oLoc d))),
    bigSep_subs (fun s => wPts m iv d (pairE (Fin.cast nCore_zero c, s)) (sums m iv d))]
  unfold cPts
  iintro H; imodintro
  isplitl [H]; · iexact H
  iintro H; iexact H

/-! ## A subcore's task -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_pool_body (coordsV c s)
          eV (Memref.isWhole_whole _) iV (Memref.isWhole_whole _) oV (Memref.isWhole_whole _)
          lV (Memref.isWhole_whole _) aV (Memref.isWhole_whole _) bV (Memref.isWhole_whole _) rV (Memref.isWhole_whole _)
          cc0_scratch4 cc0_scratch5 cc0_scoped0 cc0_scoped1) ⟨⟩ c s := rfl

theorem post_weaken {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hiv : ∀ d x, BitVec.toNat (iv d x) < 100000) : (K (F := F)).TileObl (D (F := F)) 𝒱 (P m iv) v₀ 0 := by
  intro d c s O W hO _ _
  simp only [show (P m iv).ox = fun _ _ => 0 from rfl, add_zero]
  have hcs : ((K (F := F)).core 0 c).val < grid0.bound 0 ∧ ((K (F := F)).sub 0 s).val < grid0.bound 1 := ⟨c.isLt, s.isLt⟩
  change _ ⊢ wp _ _ _ (Pipeline.liftProg (defs₀ (F := F) (.scVector ((K (F := F)).core 0 c) ((K (F := F)).sub 0 s)) 0 ())) _
  refine BI.Entails.trans ?_ (Pipeline.wp_liftProg (D (F := F)) (Pipeline.defs_kernel pcfgs defs₀) 𝒱₀ _ Set.univ none _ _)
  rw [defs₀_vector]; simp only [SparseCore.onTile, hcs, and_self, ↓reduceDIte]
  have hw : wid (coordsV ⟨_, hcs.1⟩ ⟨_, hcs.2⟩) = pairE (Fin.cast nCore_zero c, Fin.cast nSub_zero s) := Fin.ext rfl
  have h := wp_task d (coordsV ⟨_, hcs.1⟩ ⟨_, hcs.2⟩) (facts (F := F)) (shareTok fullShare 32 (pairE (Fin.cast nCore_zero c, Fin.cast nSub_zero s)))
    (tab m d) (iv d) (hiv d) (m (oLoc d)) O W hO
  rw [hw] at h
  exact h.trans (wp_mono frame _ _ fun _ => post_weaken)

end Cert.Proof.KernelIdeal
-- ==== Proof.Ideal.Region.lean ====
/-
  The TensorCore's pipeline region: three matrix products over each block of 512 rows, the nine input
  windows read and the output window written whole at every grid point. The region takes every unscoped
  buffer of the core at one valuation and hands them back with only the result array changed.
-/
module

public import proofs.«01_k».proof.Proof.Ideal.Launch
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.Frame
public import Idealize.ShloMosaic.Lib.Ring

@[expose] public section

set_option maxRecDepth 16384

noncomputable section

namespace Cert.Proof.KernelIdeal

open Cert.KernelIdeal Cert.KernelIdeal.Facts₀ Cert.KernelIdeal.Facts
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (Dat BodyObligation)

variable {F : FTy → Type} [FloatOps F] [Named F]

local notation "𝕄" => MM F

/-- The unscoped buffers' contents at the region's entry. -/
abbrev Conts (F : FTy → Type) : Type := (c : Dev nD) → (b : Ref sig .tc) → Buf (Elt F) ((c : Thread nD τ).loc b)

/-! ### The body -/

abbrev rA : Rect S512x128 := Rect.unit (s := S512x128) ![0, 0] S512x128.size inb_S512x128_S512x128_0_0
abbrev rB : Rect S128x1024 := Rect.unit (s := S128x1024) ![0, 0] S128x1024.size inb_S128x1024_S128x1024_0_0
abbrev rC : Rect S1x1024 := Rect.unit (s := S1x1024) ![0, 0] S1x1024.size inb_S1x1024_S1x1024_0_0
abbrev rD : Rect S1024x512 := Rect.unit (s := S1024x512) ![0, 0] S1024x512.size inb_S1024x512_S1024x512_0_0
abbrev rE : Rect S1x512 := Rect.unit (s := S1x512) ![0, 0] S1x512.size inb_S1x512_S1x512_0_0
abbrev rF : Rect S1x128 := Rect.unit (s := S1x128) ![0, 0] S1x128.size inb_S1x128_S1x128_0_0

/-- What one run of the body stores, from the nine blocks it reads. -/
def layer (x0 x1 : Vec F S512x128 .f32) (x2 x3 : Vec F S128x1024 .f32) (x4 : Vec F S1x1024 .f32) (x5 : Vec F S1024x512 .f32)
    (x6 : Vec F S1x512 .f32) (x7 : Vec F S512x128 .f32) (x8 : Vec F S1x128 .f32) : Vec F S512x128 .f32 :=
  View.canon [⟨rA, Gen.k1_pay1 (Gen.k1_pay2 (View.ld x0 rA) (View.ld x2 rB) (View.ld x1 rA) (View.ld x3 rB) (View.ld x4 rC) (View.ld x5 rD) (View.ld x6 rE) (View.ld x7 rA)) (View.ld x8 rF)⟩]

theorem layer_cover (p : Vec F S512x128 .f32) (y : S512x128.Idx) :
    ∃ pc ∈ ([⟨rA, p⟩] : List (View.Piece (Elt F) S512x128 .f32)), y ∈ pc.1.set :=
  View.cover_of_tiled [⟨rA, p⟩] S512x128.size (by rfl) y

/-- A buffer read whole at `view.read f`, given back. -/
theorem owns_back {s : Shape} {e : EltTy} (c : Dev nD) (m : Memref sig .tc .vmem s e) (f : Buf (Elt F) (m.view.loc (c : Thread nD τ))) :
    (m.view.loc (c : Thread nD τ) ↦[m.view.set]{fullShare} f : sProp 𝕄) ⊢ owns (c : Thread nD τ) m fullShare (m.view.read (Elt F) f) := by
  unfold owns
  iintro H
  iexists f
  isplitr
  · ipureintro; rfl
  iexact H

set_option maxHeartbeats 1000000 in
/-- The body from its ten buffers held whole: the inputs come back as they were, the output at `layer`. -/
theorem wp_layer (c : Dev nD) (E : Set ℕ) (i : grid1.Coords)
    (m0 : Memref sig .tc .vmem S512x128 .f32) (h0 : m0.IsWhole) (m1 : Memref sig .tc .vmem S512x128 .f32) (h1 : m1.IsWhole)
    (m2 : Memref sig .tc .vmem S128x1024 .f32) (h2 : m2.IsWhole) (m3 : Memref sig .tc .vmem S128x1024 .f32) (h3 : m3.IsWhole)
    (m4 : Memref sig .tc .vmem S1x1024 .f32) (h4 : m4.IsWhole) (m5 : Memref sig .tc .vmem S1024x512 .f32) (h5 : m5.IsWhole)
    (m6 : Memref sig .tc .vmem S1x512 .f32) (h6 : m6.IsWhole) (m7 : Memref sig .tc .vmem S512x128 .f32) (h7 : m7.IsWhole)
    (m8 : Memref sig .tc .vmem S1x128 .f32) (h8 : m8.IsWhole) (m9 : Memref sig .tc .vmem S512x128 .f32) (h9 : m9.IsWhole)
    (x0 x1 : Vec F S512x128 .f32) (x2 x3 : Vec F S128x1024 .f32) (x4 : Vec F S1x1024 .f32) (x5 : Vec F S1024x512 .f32)
    (x6 : Vec F S1x512 .f32) (x7 : Vec F S512x128 .f32) (x8 : Vec F S1x128 .f32) (Q : PUnit → sProp 𝕄) :
    iprop(owns (c : Thread nD τ) m0 fullShare x0 ∗ owns (c : Thread nD τ) m1 fullShare x1 ∗ owns (c : Thread nD τ) m2 fullShare x2
        ∗ owns (c : Thread nD τ) m3 fullShare x3 ∗ owns (c : Thread nD τ) m4 fullShare x4 ∗ owns (c : Thread nD τ) m5 fullShare x5
        ∗ owns (c : Thread nD τ) m6 fullShare x6 ∗ owns (c : Thread nD τ) m7 fullShare x7 ∗ owns (c : Thread nD τ) m8 fullShare x8
        ∗ (∃ d, owns (c : Thread nD τ) m9 fullShare d)
        ∗ (iprop(owns (c : Thread nD τ) m0 fullShare x0 ∗ owns (c : Thread nD τ) m1 fullShare x1 ∗ owns (c : Thread nD τ) m2 fullShare x2
            ∗ owns (c : Thread nD τ) m3 fullShare x3 ∗ owns (c : Thread nD τ) m4 fullShare x4 ∗ owns (c : Thread nD τ) m5 fullShare x5
            ∗ owns (c : Thread nD τ) m6 fullShare x6 ∗ owns (c : Thread nD τ) m7 fullShare x7 ∗ owns (c : Thread nD τ) m8 fullShare x8
            ∗ owns (c : Thread nD τ) m9 fullShare (layer x0 x1 x2 x3 x4 x5 x6 x7 x8)) -∗ Q ⟨⟩))
      ⊢ wp frame (wpE (defs₀ (F := F)) Variants.none (c : Thread nD τ) none) E (cc1__mlp_body i m0 h0 m1 h1 m2 h2 m3 h3 m4 h4 m5 h5 m6 h6 m7 h7 m8 h8 m9 h9) Q := by
  have e0 := owns_back (F := F) c m0
  have e1 := owns_back (F := F) c m1
  have e2 := owns_back (F := F) c m2
  have e3 := owns_back (F := F) c m3
  have e4 := owns_back (F := F) c m4
  have e5 := owns_back (F := F) c m5
  have e6 := owns_back (F := F) c m6
  have e7 := owns_back (F := F) c m7
  have e8 := owns_back (F := F) c m8
  simp only [Gen.cc1__mlp_body_eq_skeleton]
  unfold Gen.cc1__mlp_body_skel
  unfold owns at ⊢
  iintro ⟨⟨%f0, %g0, H0⟩, ⟨%f1, %g1, H1⟩, ⟨%f2, %g2, H2⟩, ⟨%f3, %g3, H3⟩, ⟨%f4, %g4, H4⟩, ⟨%f5, %g5, H5⟩, ⟨%f6, %g6, H6⟩, ⟨%f7, %g7, H7⟩, ⟨%f8, %g8, H8⟩, ⟨%d9, %f9, -, H9⟩, Hk⟩
  subst g0 g1 g2 g3 g4 g5 g6 g7 g8
  sl_exec
  sl_step
  iapply Hk
  unfold owns at e0 e1 e2 e3 e4 e5 e6 e7 e8
  isplitl [H0]; · iapply e0; iexact H0
  isplitl [H1]; · iapply e1; iexact H1
  isplitl [H2]; · iapply e2; iexact H2
  isplitl [H3]; · iapply e3; iexact H3
  isplitl [H4]; · iapply e4; iexact H4
  isplitl [H5]; · iapply e5; iexact H5
  isplitl [H6]; · iapply e6; iexact H6
  isplitl [H7]; · iapply e7; iexact H7
  isplitl [H8]; · iapply e8; iexact H8
  iexists _
  isplitr
  swap
  · iexact H9
  ipureintro
  exact View.read_writes_eq_canon _ _ _ (layer_cover _)

/-! ### The proof data -/

variable (V : Conts F)

/-- The block window `w` stages at point `t`. -/
abbrev blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the body leaves in the output's buffer at point `t`. -/
def layerAt (c : Dev nD) (t : Fin cfg1.N) : Vec F S512x128 .f32 :=
  layer (blockAt V c 0 t) (blockAt V c 1 t) (blockAt V c 2 t) (blockAt V c 3 t) (blockAt V c 4 t) (blockAt V c 5 t) (blockAt V c 6 t)
    (blockAt V c 7 t) (blockAt V c 8 t)

/-- The pairs the core may have recorded when the region is entered: those of the first launch's handshakes. -/
def early (c : Dev nD) : Set (SemLoc sig × HIx 1) :=
  {p | (K (F := F)).lev ((c : Thread nD τ), p.1) p.2 ≤ 8 * SparseCore.Cfg.Blocks.fst (Q := 1) (N := 1) 1}

def dat (c : Dev nD) : Dat τ (Elt F) (HIx 1) ℕ UU ℕ cfg1 c where
  A w := V c (Pipeline.arrRef spec1 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => blockAt V c 5 t
    | ⟨6, _⟩ => blockAt V c 6 t
    | ⟨7, _⟩ => blockAt V c 7 t
    | ⟨8, _⟩ => blockAt V c 8 t
    | ⟨9, _⟩ => layerAt V c t
  Φ _ := Pipeline.scopedRest spec1 c
  q w := Pipeline.shareOf spec1 w
  owed _ := 0
  recorded _ := early (F := F) c

theorem dat_A (c : Dev nD) (w : Fin cfg1.W) : (dat V c).A w = V c (Pipeline.arrRef spec1 w) := by dsimp only [dat]

theorem dat_after_out (c : Dev nD) (t : Fin cfg1.N) : (dat V c).after 9 t = layerAt V c t := by dsimp only [dat]

theorem dat_cut_in (c : Dev nD) (w : Fin cfg1.W) (hw : w ≠ 9) (t : Fin cfg1.N) :
    (cfg1.win w).cut (cfg1.grid.coords t) ((dat V c).after w t) = (dat V c).blockOf w t := by
  unfold Dat.blockOf
  rw [dat_A]
  fin_cases w
  all_goals first | exact absurd rfl hw | dsimp only [dat]

theorem clip_same (w : Fin cfg1.W) (hw : w ≠ 9) (t t' : Fin cfg1.N) :
    (cfg1.win w).clip (cfg1.grid.coords t) = (cfg1.win w).clip (cfg1.grid.coords t') := by
  fin_cases w
  all_goals first | exact absurd rfl hw | rfl

theorem win_in (w : Fin cfg1.W) (hw : w ≠ 9) : (cfg1.win w).isOut = false := by
  fin_cases w
  all_goals first | exact absurd rfl hw | rfl

theorem arr_ne : ∀ w : Fin 10, w ≠ 9 → Pipeline.arrRef spec1 w ≠ main_v22 := by decide

theorem win_live (w : Fin cfg1.W) (i : cfg1.grid.Coords) : cfg1.idle w i = false := rfl

/-- An input's staging buffer holds what a fetch of its block leaves, at every point. -/
theorem before_in (c : Dev nD) (w : Fin cfg1.W) (hw : w ≠ 9) (t : Fin cfg1.N) (d) : (dat V c).before w t d = (dat V c).fetched w t d :=
  (dat V c).before_in_eq_fetched w (win_in w hw) (win_live w) (fun t t' _ => clip_same w hw t t') (dat_cut_in V c w hw) t d

/-! ### The body obligation -/

/-- The ten windows' buffers before the body. -/
def stagesPre (c : Dev nD) (t : Fin cfg1.N) : sProp 𝕄 :=
  iprop((∃ d, owns (c : Thread nD τ) (Gen.st1_0 t) fullShare ((dat V c).before 0 t d))
    ∗ (∃ d, owns (c : Thread nD τ) (Gen.st1_1 t) fullShare ((dat V c).before 1 t d))
    ∗ (∃ d, owns (c : Thread nD τ) (Gen.st1_2 t) fullShare ((dat V c).before 2 t d))
    ∗ (∃ d, owns (c : Thread nD τ) (Gen.st1_3 t) fullShare ((dat V c).before 3 t d))
    ∗ (∃ d, owns (c : Thread nD τ) (Gen.st1_4 t) fullShare ((dat V c).before 4 t d))
    ∗ (∃ d, owns (c : Thread nD τ) (Gen.st1_5 t) fullShare ((dat V c).before 5 t d))
    ∗ (∃ d, owns (c : Thread nD τ) (Gen.st1_6 t) fullShare ((dat V c).before 6 t d))
    ∗ (∃ d, owns (c : Thread nD τ) (Gen.st1_7 t) fullShare ((dat V c).before 7 t d))
    ∗ (∃ d, owns (c : Thread nD τ) (Gen.st1_8 t) fullShare ((dat V c).before 8 t d))
    ∗ (∃ d, owns (c : Thread nD τ) (Gen.st1_9 t) fullShare ((dat V c).before 9 t d)))

/-- And after it. -/
def stagesPost (c : Dev nD) (t : Fin cfg1.N) : sProp 𝕄 :=
  iprop(owns (c : Thread nD τ) (Gen.st1_0 t) fullShare ((dat V c).after 0 t)
    ∗ owns (c : Thread nD τ) (Gen.st1_1 t) fullShare ((dat V c).after 1 t)
    ∗ owns (c : Thread nD τ) (Gen.st1_2 t) fullShare ((dat V c).after 2 t)
    ∗ owns (c : Thread nD τ) (Gen.st1_3 t) fullShare ((dat V c).after 3 t)
    ∗ owns (c : Thread nD τ) (Gen.st1_4 t) fullShare ((dat V c).after 4 t)
    ∗ owns (c : Thread nD τ) (Gen.st1_5 t) fullShare ((dat V c).after 5 t)
    ∗ owns (c : Thread nD τ) (Gen.st1_6 t) fullShare ((dat V c).after 6 t)
    ∗ owns (c : Thread nD τ) (Gen.st1_7 t) fullShare ((dat V c).after 7 t)
    ∗ owns (c : Thread nD τ) (Gen.st1_8 t) fullShare ((dat V c).after 8 t)
    ∗ owns (c : Thread nD τ) (Gen.st1_9 t) fullShare ((dat V c).after 9 t))

theorem body_at (c : Dev nD) (t : Fin cfg1.N) :
    iprop((dat V c).Φ t.castSucc ∗ (dat V c).owesAt none t.castSucc ∗ stagesPre V c t)
      ⊢ wp frame (wpE (defs₀ (F := F)) Variants.none (c : Thread nD τ) none) Set.univ (Gen.bodyAt1 t)
          (fun _ => iprop((dat V c).Φ t.succ ∗ (dat V c).owesAt none t.succ ∗ stagesPost V c t)) := by
  unfold stagesPre stagesPost
  have b0 : ∀ d, (dat V c).before 0 t d = blockAt V c 0 t := fun d => (before_in V c 0 (by decide) t d).trans (by unfold Dat.fetched Dat.blockOf; rw [dat_A]; rfl)
  have b1 : ∀ d, (dat V c).before 1 t d = blockAt V c 1 t := fun d => (before_in V c 1 (by decide) t d).trans (by unfold Dat.fetched Dat.blockOf; rw [dat_A]; rfl)
  have b2 : ∀ d, (dat V c).before 2 t d = blockAt V c 2 t := fun d => (before_in V c 2 (by decide) t d).trans (by unfold Dat.fetched Dat.blockOf; rw [dat_A]; rfl)
  have b3 : ∀ d, (dat V c).before 3 t d = blockAt V c 3 t := fun d => (before_in V c 3 (by decide) t d).trans (by unfold Dat.fetched Dat.blockOf; rw [dat_A]; rfl)
  have b4 : ∀ d, (dat V c).before 4 t d = blockAt V c 4 t := fun d => (before_in V c 4 (by decide) t d).trans (by unfold Dat.fetched Dat.blockOf; rw [dat_A]; rfl)
  have b5 : ∀ d, (dat V c).before 5 t d = blockAt V c 5 t := fun d => (before_in V c 5 (by decide) t d).trans (by unfold Dat.fetched Dat.blockOf; rw [dat_A]; rfl)
  have b6 : ∀ d, (dat V c).before 6 t d = blockAt V c 6 t := fun d => (before_in V c 6 (by decide) t d).trans (by unfold Dat.fetched Dat.blockOf; rw [dat_A]; rfl)
  have b7 : ∀ d, (dat V c).before 7 t d = blockAt V c 7 t := fun d => (before_in V c 7 (by decide) t d).trans (by unfold Dat.fetched Dat.blockOf; rw [dat_A]; rfl)
  have b8 : ∀ d, (dat V c).before 8 t d = blockAt V c 8 t := fun d => (before_in V c 8 (by decide) t d).trans (by unfold Dat.fetched Dat.blockOf; rw [dat_A]; rfl)
  have a0 : (dat V c).after 0 t = blockAt V c 0 t := by dsimp only [dat]
  have a1 : (dat V c).after 1 t = blockAt V c 1 t := by dsimp only [dat]
  have a2 : (dat V c).after 2 t = blockAt V c 2 t := by dsimp only [dat]
  have a3 : (dat V c).after 3 t = blockAt V c 3 t := by dsimp only [dat]
  have a4 : (dat V c).after 4 t = blockAt V c 4 t := by dsimp only [dat]
  have a5 : (dat V c).after 5 t = blockAt V c 5 t := by dsimp only [dat]
  have a6 : (dat V c).after 6 t = blockAt V c 6 t := by dsimp only [dat]
  have a7 : (dat V c).after 7 t = blockAt V c 7 t := by dsimp only [dat]
  have a8 : (dat V c).after 8 t = blockAt V c 8 t := by dsimp only [dat]
  simp only [b0, b1, b2, b3, b4, b5, b6, b7, b8]
  rw [show (dat V c).Φ t.succ = (dat V c).Φ t.castSucc from rfl, show (dat V c).owesAt none t.succ = (dat V c).owesAt none t.castSucc from rfl,
    a0, a1, a2, a3, a4, a5, a6, a7, a8, dat_after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (wp_layer c Set.univ (grid1.coords t) _ _ _ _ _ _ _ _ _ _ _ _ _ _ _ _ _ _ _ _ (blockAt V c 0 t) (blockAt V c 1 t) (blockAt V c 2 t)
    (blockAt V c 3 t) (blockAt V c 4 t) (blockAt V c 5 t) (blockAt V c 6 t) (blockAt V c 7 t) (blockAt V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro Hs
  isplitl [HΦ]; · iexact HΦ
  isplitl [Ho]; · iexact Ho
  iexact Hs

theorem row_eq (t : Fin cfg1.N) : defs₀ (F := F) .tc cfg1.body (cfg1.bodyArgs t (cfg1.slots t)) = Gen.bodyAt1 t := by
  rfl

theorem body_obligation (c : Dev nD) : BodyObligation (dat V c) (defs₀ (F := F)) Variants.none none Set.univ := fun t => by
  rw [Gen.bigSep_W1, Gen.bigSep_W1, row_eq]
  exact triple_restated (body_at V c t) rfl .rfl fun _ => .rfl

/-! ### The region -/

abbrev adm : (p : Fin 1) → (pcfgs (F := F) p).Adm := fun p => (cfgs p).toPCfg_adm
abbrev pdats : (p : Fin 1) → (c : Dev nD) → Dat τ (Elt F) (HIx 1) ℕ UU ℕ (Pipeline.pin (pcfgs (F := F)) adm p) c := fun _ c => dat V c

/-- The result array after the region. -/
def mlp (c : Dev nD) : Buf (Elt F) ((c : Thread nD τ).loc main_v22) := (dat V c).arrAt 9 cfg1.N

variable (V' : Conts F)

/-- What the core owes between the steps of @main after the launch: nothing, its recorded pairs early ones. -/
abbrev settled (c : Dev nD) : sProp 𝕄 :=
  iprop(∃ W, ⌜∀ p ∈ W, p ∈ early (F := F) c⌝ ∗ owes (c : Thread nD τ) (0 : CellTallies nD τ sig (HIx 1)) W)

set_option backward.isDefEq.respectTransparency.types false in
def seg (hout : ∀ c, V' c main_v22 = mlp V c) (hne : ∀ c (b : Ref sig .tc), b ≠ main_v22 → V' c b = V c b) :
    Pipeline.RegionSeg (pcfgs (F := F)) adm (pdats V) none defs₀ 𝒱₀ (K (F := F)).L (K (F := F)).lev 0 where
  win := Gen.winFacts₀1
  block_pos := Gen.block_pos1
  stage_whole := Gen.stage_whole1
  K := PEmpty
  osem k := k.elim
  ho := Pipeline.OwnSemFacts.none _
  hbody c := (body_obligation V c).loose
  hwaits := Pipeline.hwaits_of_owed_zero _ _ _ _ (K (F := F)).L (K (F := F)).lev 0 fun _ _ => rfl
  pre c := iprop(unscopedBufs c (V c) ∗ settled (F := F) c)
  post c := iprop(unscopedBufs c (V' c) ∗ settled (F := F) c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs_shared (p := 0) (pcfgs (F := F)) adm (pdats V) Gen.winFacts₀1 Gen.sharedIn1 Gen.arr_whole1 c
      (fun _ _ => rfl) (V c) fun _ => rfl
    iintro ⟨⟨Hub, %W, %hW, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W
      isplitr
      · ipureintro; exact fun p hp => Or.inl (hW p hp)
      iexact HO
    isplitr; · iempintro
    iexact Hrest
  hin c := by
    rw [show (pdats V 0 c).Φ 0 = Pipeline.scopedRest spec1 c from rfl]
    iintro ⟨-, -, Hr⟩; iexact Hr
  hout c := by
    rw [Pipeline.ownSems0_none, show (pdats V 0 c).Φ (Fin.last _) = Pipeline.scopedRest spec1 c from rfl]
    iintro Hr
    isplitr; · iempintro
    isplitr; · iempintro
    iexact Hr
  hexit c := by
    have hjoin := Pipeline.unscopedBufs_of_arrays_shared (p := 0) (pcfgs (F := F)) adm (Ix := HIx 1) (Name := ℕ) (U := UU) (Lvl := ℕ)
      Gen.winFacts₀1 Gen.sharedIn1 Gen.arr_whole1 c (pdats V) (fun _ _ => rfl) (V c) (V' c) ((pdats V 0 c).arrAt · cfg1.N)
      (fun w => by
        by_cases hw : w = 9
        · subst hw; exact (hout c).symm
        · exact ((pdats V 0 c).arrAt_in w (win_in w hw) _).trans ((dat_A V c w).trans (hne c _ (arr_ne w hw)).symm))
      (fun b hb => hne c b fun h => hb (h ▸ Finset.mem_image.mpr ⟨9, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩
    iexists W
    isplitr
    · ipureintro
      intro p hp
      rcases hW (Finset.mem_coe.mpr hp) with h | ⟨w, s, h⟩
      · exact h
      · subst h; exact Nat.zero_le _
    iexact HO

end Cert.Proof.KernelIdeal

end
-- ==== Proof.Ideal.Main.lean ====
/-
  The program's run. @main's host operations run over the core's unscoped buffers held whole; the SparseCore
  call takes the index array, the table and the array of sums out of them and gives them back; the TensorCore
  region takes them all. The final memory is the valuation those steps compose.
-/
module

public import proofs.«01_k».proof.Proof.Ideal.Region
public import Idealize.ShloMosaic.Lib.StableHlo.RunRead

@[expose] public section

set_option maxRecDepth 16384

noncomputable section

namespace Cert.Proof.KernelIdeal

open Cert.KernelIdeal Cert.KernelIdeal.Facts₀ Cert.KernelIdeal.Facts
open Idealize.ShloMosaic Idealize.ShloMosaic.TcCoe
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Tactic
open Idealize.ShloMosaic.StableHlo (held after)

variable {F : FTy → Type} [FloatOps F] [Named F]

local notation "𝕄" => MM F

/-! ### The host operations -/

/-- Before the SparseCore call: the two index arrays joined, cut into workers' rows and padded. -/
def ops0 : List (HloOp τ sig (Elt F)) :=
  [ StableHlo.reshape main_arg0 main_v0 (rfl : (.i32 : EltTy) = .i32) shapeCasts_S4096x50_S204800,
    StableHlo.reshape main_arg1 main_v1 (rfl : (.i32 : EltTy) = .i32) shapeCasts_S4096x50_S204800,
    StableHlo.binary main_v0 main_v1 main_v2 ((fun a b => concatenate S409600 0 [⟨S204800, a⟩, ⟨S204800, b⟩] concatenates_S204800_S204800_S409600_d0) : (⟨S204800, .i32⟩ : BufTy).Contents (Elt F) → (⟨S204800, .i32⟩ : BufTy).Contents (Elt F) → (⟨S409600, .i32⟩ : BufTy).Contents (Elt F)),
    StableHlo.reshape main_v2 main_v3 (rfl : (.i32 : EltTy) = .i32) shapeCasts_S409600_S32x128x100,
    StableHlo.nullary main_c (constantI S_ 32 0#32),
    StableHlo.TRef.unary (.of main_c : StableHlo.TRef sig ⟨S_, .i32⟩) main_call0.v0 id,
    StableHlo.TRef.binary (.of main_v3 : StableHlo.TRef sig ⟨S32x128x100, .i32⟩) main_call0.v0 main_call0.v1 (fun x v => pad S32x128x104 ![0, 0, 0] ![0, 0, 4] ![0, 0, 0] x v pads_S32x128x100_S32x128x104_000_000_040 h_S_) ]

/-- Between the two calls: the weights laid out as the dense layers take them. -/
def ops1 : List (HloOp τ sig (Elt F)) :=
  [ StableHlo.unary main_arg3 main_v6 ((extractStridedSlice S1024x128 ![0, 0] · slices_S1024x256_S1024x128_0_0) : (⟨S1024x256, .f32⟩ : BufTy).Contents (Elt F) → (⟨S1024x128, .f32⟩ : BufTy).Contents (Elt F)),
    StableHlo.unary main_v6 main_v7 ((transpose S128x1024 [1, 0] · transposes_S1024x128_S128x1024_1_0) : (⟨S1024x128, .f32⟩ : BufTy).Contents (Elt F) → (⟨S128x1024, .f32⟩ : BufTy).Contents (Elt F)),
    StableHlo.unary main_arg3 main_v8 ((extractStridedSlice S1024x128 ![0, 128] · slices_S1024x256_S1024x128_0_128) : (⟨S1024x256, .f32⟩ : BufTy).Contents (Elt F) → (⟨S1024x128, .f32⟩ : BufTy).Contents (Elt F)),
    StableHlo.unary main_v8 main_v9 ((transpose S128x1024 [1, 0] · transposes_S1024x128_S128x1024_1_0) : (⟨S1024x128, .f32⟩ : BufTy).Contents (Elt F) → (⟨S128x1024, .f32⟩ : BufTy).Contents (Elt F)),
    StableHlo.unary main_arg5 main_v10 ((transpose S1024x512 [1, 0] · transposes_S512x1024_S1024x512_1_0) : (⟨S512x1024, .f32⟩ : BufTy).Contents (Elt F) → (⟨S1024x512, .f32⟩ : BufTy).Contents (Elt F)),
    StableHlo.nullary main_cst (constant S_ .f32 0x00000000#32),
    StableHlo.unary main_cst main_v11 (broadcastInDim S512x128 ![] bcast_S_S512x128 : (⟨S_, .f32⟩ : BufTy).Contents (Elt F) → (⟨S512x128, .f32⟩ : BufTy).Contents (Elt F)),
    StableHlo.unary main_arg7 main_v12 ((transpose S512x2 [1, 0] · transposes_S2x512_S512x2_1_0) : (⟨S2x512, .f32⟩ : BufTy).Contents (Elt F) → (⟨S512x2, .f32⟩ : BufTy).Contents (Elt F)),
    StableHlo.nullary main_c_0 (constantI S_ 32 0#32),
    StableHlo.unary main_c_0 main_v13 (broadcastInDim S1 ![] bcast_S_S1 : (⟨S_, .i32⟩ : BufTy).Contents (Elt F) → (⟨S1, .i32⟩ : BufTy).Contents (Elt F)),
    StableHlo.ternary main_v11 main_v13 main_v12 main_v14 ((fun x i u => Host.scatter scatter_S512x128_S1_S512x2_01_n_1_0 (fun _ b => b) x i u) : (⟨S512x128, .f32⟩ : BufTy).Contents (Elt F) → (⟨S1, .i32⟩ : BufTy).Contents (Elt F) → (⟨S512x2, .f32⟩ : BufTy).Contents (Elt F) → (⟨S512x128, .f32⟩ : BufTy).Contents (Elt F)),
    StableHlo.nullary main_cst_1 (constant S_ .f32 0x00000000#32),
    StableHlo.unary main_cst_1 main_v15 (broadcastInDim S1x128 ![] bcast_S_S1x128 : (⟨S_, .f32⟩ : BufTy).Contents (Elt F) → (⟨S1x128, .f32⟩ : BufTy).Contents (Elt F)),
    StableHlo.nullary main_c_2 (constantI S_ 32 0#32),
    StableHlo.unary main_c_2 main_v16 (broadcastInDim S1 ![] bcast_S_S1 : (⟨S_, .i32⟩ : BufTy).Contents (Elt F) → (⟨S1, .i32⟩ : BufTy).Contents (Elt F)),
    StableHlo.nullary main_c_3 (constantI S_ 32 0#32),
    StableHlo.unary main_c_3 main_v17 (broadcastInDim S1 ![] bcast_S_S1 : (⟨S_, .i32⟩ : BufTy).Contents (Elt F) → (⟨S1, .i32⟩ : BufTy).Contents (Elt F)),
    StableHlo.binary main_v16 main_v17 main_v18 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.ternary main_v15 main_v18 main_arg8 main_v19 ((fun x i u => Host.scatter scatter_S1x128_S2_S2_0_0_01_0 (fun _ b => b) x i u) : (⟨S1x128, .f32⟩ : BufTy).Contents (Elt F) → (⟨S2, .i32⟩ : BufTy).Contents (Elt F) → (⟨S2, .f32⟩ : BufTy).Contents (Elt F) → (⟨S1x128, .f32⟩ : BufTy).Contents (Elt F)),
    StableHlo.reshape main_arg4 main_v20 (rfl : (.f32 : EltTy) = .f32) shapeCasts_S1024_S1x1024,
    StableHlo.reshape main_arg6 main_v21 (rfl : (.f32 : EltTy) = .f32) shapeCasts_S512_S1x512 ]

/-- After the TensorCore call: the two columns of the result. -/
def ops2 : List (HloOp τ sig (Elt F)) :=
  [ StableHlo.unary main_v22 main_v23 ((extractStridedSlice S4096x2 ![0, 0] · slices_S4096x128_S4096x2_0_0) : (⟨S4096x128, .f32⟩ : BufTy).Contents (Elt F) → (⟨S4096x2, .f32⟩ : BufTy).Contents (Elt F)) ]

/-- @main is those three lines with the two calls between them. -/
theorem main_eq (d : Dev nD) : main (F := F) d = (do
    StableHlo.seq ops0
    sc.run d 0
    StableHlo.seq ops1
    Prog.lift (.customCall (SparseCore.inner (Pipeline.entry 0)) ())
    StableHlo.seq ops2
    pure ⟨⟩) := by
  unfold main fn_pad.body ops0 ops1 ops2
  simp only [StableHlo.seq, bind_assoc, pure_bind]

theorem forall_uc {ops : List (HloOp τ sig (Elt F))} (h : ops.Forall fun op => op.bufs ⊆ StableHlo.tcRefs τ sig) :
    ∀ op ∈ ops, op.bufs ⊆ Pipeline.ucRefs τ sig :=
  fun op hop => Pipeline.sub_ucRefs op ((List.forall_iff_forall_mem.mp h) op hop)

theorem ops0_sub : ∀ op ∈ (ops0 : List (HloOp τ sig (Elt F))), op.bufs ⊆ Pipeline.ucRefs τ sig :=
  forall_uc (by unfold ops0; simp [StableHlo.TRef.unary, StableHlo.TRef.binary])

theorem ops1_sub : ∀ op ∈ (ops1 : List (HloOp τ sig (Elt F))), op.bufs ⊆ Pipeline.ucRefs τ sig :=
  forall_uc (by unfold ops1; simp)

theorem ops2_sub : ∀ op ∈ (ops2 : List (HloOp τ sig (Elt F))), op.bufs ⊆ Pipeline.ucRefs τ sig :=
  forall_uc (by unfold ops2; simp)

theorem ops0_fresh : ∀ op ∈ (ops0 : List (HloOp τ sig (Elt F))), op.fresh = ∅ := by
  intro op h; unfold ops0 at h; fin_cases h <;> rfl

theorem ops1_fresh : ∀ op ∈ (ops1 : List (HloOp τ sig (Elt F))), op.fresh = ∅ := by
  intro op h; unfold ops1 at h; fin_cases h <;> rfl

theorem ops2_fresh : ∀ op ∈ (ops2 : List (HloOp τ sig (Elt F))), op.fresh = ∅ := by
  intro op h; unfold ops2 at h; fin_cases h <;> rfl

/-! ### The memory between the steps -/

variable (m : (ℓ : Loc nD τ sig) → Buf (Elt F) ℓ)

/-- At launch. -/
def V0 (d : Dev nD) : Valuation τ sig (Elt F) := fun b => m (d, b)

/-- When the SparseCore call is entered. -/
def V1 (d : Dev nD) : Valuation τ sig (Elt F) := after ops0 (V0 m d)

/-- The index array the call takes. -/
def iv (d : Dev nD) : S32x128x104.Idx → BitVec 32 := V1 m d main_v4

/-- When it returns: the sums written. -/
def V2 (d : Dev nD) : Valuation τ sig (Elt F) := Function.update (V1 m d) main_v5 (sums m (iv m) d)

/-- When the TensorCore region is entered. -/
def V3 (d : Dev nD) : Valuation τ sig (Elt F) := after ops1 (V2 m d)

/-- When it is left: its result written. -/
def V4 (d : Dev nD) : Valuation τ sig (Elt F) := Function.update (V3 m d) main_v22 (mlp (fun c b => V3 m c b) d)

/-- At the end. -/
def V5 (d : Dev nD) : Valuation τ sig (Elt F) := after ops2 (V4 m d)

theorem V1_table (d : Dev nD) : V1 m d main_arg2 = m (eLoc d) := by
  unfold V1 ops0; after_reads_simp; rfl

theorem V1_sums (d : Dev nD) : V1 m d main_v5 = m (oLoc d) := by
  unfold V1 ops0; after_reads_simp; rfl

/-! ### The SparseCore call's arrays -/

/-- What the call touches. -/
def callRefs : Finset (DevRef τ sig) := {(main_arg2 : DevRef τ sig), (main_v4 : DevRef τ sig), (main_v5 : DevRef τ sig)}

theorem callRefs_sub : callRefs ⊆ Pipeline.ucRefs τ sig := by decide

theorem held_call (d : Dev nD) (V : Valuation τ sig (Elt F)) :
    (held (d : Thread nD τ) callRefs V : sProp 𝕄)
      = iprop((eLoc d ↦{fullShare} (V main_arg2 : Buf (Elt F) (eLoc d))) ∗ (iLoc d ↦{fullShare} (V main_v4 : Buf (Elt F) (iLoc d)))
        ∗ oLoc d ↦{fullShare} (V main_v5 : Buf (Elt F) (oLoc d))) := by
  unfold held callRefs
  rw [bigSep_insert (by decide), bigSep_insert (by decide), bigSep_singleton]
  rfl

theorem held_rest (d : Dev nD) :
    (held (d : Thread nD τ) (Pipeline.ucRefs τ sig \ callRefs) (V2 m d) : sProp 𝕄)
      = held (d : Thread nD τ) (Pipeline.ucRefs τ sig \ callRefs) (V1 m d) :=
  StableHlo.held_congr _ fun b hb => Function.update_of_ne
    (fun h : b = (main_v5 : DevRef τ sig) => (Finset.mem_sdiff.mp hb).2 (by rw [h]; decide)) _ _

theorem st_all (d : Dev nD) :
    (bigSep Finset.univ fun c : Fin ((K (F := F)).nCore 0) => (P m (iv m)).st 0 d c)
      = iprop((iLoc d ↦{fullShare} (iv m d : Buf (Elt F) (iLoc d)))
        ∗ (bigSep Finset.univ fun w : Fin 32 => ePts d (shareTok fullShare 32 w) (tab m d))
        ∗ oLoc d ↦{fullShare} m (oLoc d)) :=
  (bigSep_cores (fun c => cPts m (iv m) d c (m (oLoc d)))).trans (parts_all m (iv m) d _)

theorem dn_all (d : Dev nD) :
    (bigSep Finset.univ fun c : Fin ((K (F := F)).nCore 0) => (P m (iv m)).dn 0 d c)
      = iprop((iLoc d ↦{fullShare} (iv m d : Buf (Elt F) (iLoc d)))
        ∗ (bigSep Finset.univ fun w : Fin 32 => ePts d (shareTok fullShare 32 w) (tab m d))
        ∗ oLoc d ↦{fullShare} (sums m (iv m) d : Buf (Elt F) (oLoc d))) :=
  (bigSep_cores (fun c => cPts m (iv m) d c (sums m (iv m) d))).trans (parts_all m (iv m) d _)

/-- The table whole is a remainder of its share and the thirty-two workers' tokens. -/
theorem table_toks (d : Dev nD) :
    (eLoc d ↦{fullShare} (tab m d : Buf (Elt F) (eLoc d)) : sProp 𝕄)
      ⊣⊢ iprop((eLoc d ↦{shareDrop fullShare 32} (tab m d : Buf (Elt F) (eLoc d)))
        ∗ bigSep Finset.univ fun w : Fin 32 => ePts d (shareTok fullShare 32 w) (tab m d)) :=
  Transfers.pointsTo_toks fullShare 32

/-- The call's step: all the core's buffers at `V1` before it, at `V2` after. -/
theorem wp_call (κ : GSem nD τ sig → ℕ) (d : Dev nD) (Q : PUnit → sProp 𝕄) :
    iprop((K (F := F)).ctx EH (P m (iv m)) κ ∗ (K (F := F)).tcSt EH d 0 ∗ held (d : Thread nD τ) (Pipeline.ucRefs τ sig) (V1 m d)
        ∗ (((K (F := F)).tcSt EH d 1 ∗ held (d : Thread nD τ) (Pipeline.ucRefs τ sig) (V2 m d)) -∗ Q ⟨⟩))
      ⊢ wp frame (wpE ((K (F := F)).defs (D (F := F))) 𝒱 (SparseCore.T d) none) Set.univ ((K (F := F)).run d 0) Q := by
  rw [StableHlo.held_sub_split _ callRefs_sub (V1 m d), StableHlo.held_sub_split _ callRefs_sub (V2 m d), held_rest, held_call, held_call,
    V1_table, V1_sums, show V1 m d main_v4 = iv m d from rfl,
    show V2 m d main_arg2 = m (eLoc d) from (Function.update_of_ne (by decide) _ _).trans (V1_table m d),
    show V2 m d main_v4 = iv m d from Function.update_of_ne (by decide) _ _,
    show V2 m d main_v5 = sums m (iv m) d from Function.update_self ..]
  iintro ⟨#Hctx, Hst, ⟨⟨He, Hi, Ho⟩, Hrest⟩, Hk⟩
  ihave He' := (table_toks m d).1 $$ He
  icases He' with ⟨Hd, Ht⟩
  iapply ((K (F := F)).wp_run (D (F := F)) 𝒱 (EH := EH) (P := P m (iv m)) κ d 0) $$ [Hst Hi Ho Ht Hd Hrest Hk]
  isplitr; · iexact Hctx
  isplitl [Hst]; · iexact Hst
  isplitl [Hi Ho Ht]
  · rw [st_all]
    isplitl [Hi]; · iexact Hi
    isplitl [Ht]; · iexact Ht
    iexact Ho
  iintro ⟨Hst, Hdn⟩
  ihave Hdn' := (Entails.of_eq (dn_all m d)) $$ Hdn
  icases Hdn' with ⟨Hi, Ht, Ho⟩
  iapply Hk
  isplitl [Hst]; · iexact Hst
  isplitr [Hrest]
  · isplitl [Hd Ht]
    · iapply (table_toks m d).2
      isplitl [Hd] <;> iassumption
    isplitl [Hi] <;> iassumption
  iexact Hrest

/-! ### The region's step -/

abbrev ghost (d : Dev nD) : sProp 𝕄 :=
  iprop(Pipeline.cellsGhost (Pipeline.pin (pcfgs (F := F)) adm) EP 0 d ∗ Pipeline.toksInit (Pipeline.pin (pcfgs (F := F)) adm) EP 0 d)

abbrev V3c : Conts F := fun c b => V3 m c b
abbrev V4c : Conts F := fun c b => V4 m c b

theorem V4c_out (c : Dev nD) : V4c m c main_v22 = mlp (V3c m) c := Function.update_self ..

theorem V4c_ne (c : Dev nD) (b : Ref sig .tc) (h : b ≠ main_v22) : V4c m c b = V3c m c b :=
  Function.update_of_ne (fun e => h (Proc.devRef_injective _ e)) _ _

/-- The call of the region, in the signature the pipeline library reads. -/
def regionCall : Prog (TpuEff nD τ sig (Elt F) (ΛP (F := F)) .tc) PUnit := .op (.customCall (Pipeline.entry 0) ()) .ret

theorem regionCall_lift : (SparseCore.liftProg (regionCall (F := F)) : Prog (TpuEff nD τ sig (Elt F) (SparseCore.Sig (ΛP (F := F)) 1) .tc) PUnit)
    = Prog.lift (.customCall (SparseCore.inner (Pipeline.entry 0)) ()) := rfl

theorem wp_region [∀ e, Nonempty (Elt F e)] (d : Dev nD) (Q : PUnit → sProp 𝕄) :
    iprop((iprop(boundary (d : Thread nD τ) ∗ held (d : Thread nD τ) (Pipeline.ucRefs τ sig) (V4 m d) ∗ settled (F := F) d) -∗ Q ⟨⟩)
        ∗ boundary (d : Thread nD τ) ∗ (held (d : Thread nD τ) (Pipeline.ucRefs τ sig) (V3 m d) ∗ settled (F := F) d)
        ∗ levAts (K (F := F)).L (K (F := F)).lev ∗ ghost d)
      ⊢ wp frame (wpE ((K (F := F)).defs (D (F := F))) 𝒱 (SparseCore.T d) none) Set.univ
          (Prog.lift (.customCall (SparseCore.inner (Pipeline.entry 0)) ())) Q := by
  have hlift := (K (F := F)).wp_liftProg (D (F := F)) 𝒱 (SparseCore.T d) Set.univ none (regionCall (F := F)) Q
  rw [← regionCall_lift]
  refine BI.Entails.trans ?_ hlift
  have hpre : (seg (V3c m) (V4c m) (V4c_out m) (V4c_ne m)).pre d = iprop(unscopedBufs d (V3c m d) ∗ settled (F := F) d) := rfl
  have hpost : (seg (V3c m) (V4c m) (V4c_out m) (V4c_ne m)).post d = iprop(unscopedBufs d (V4c m d) ∗ settled (F := F) d) := rfl
  have h := Pipeline.RegionSeg.wp (pcfgs (F := F)) adm (pdats (V3c m)) none Gen.cellOf_inj EP defs₀ 𝒱₀ (K (F := F)).L (K (F := F)).lev
    (seg (V3c m) (V4c m) (V4c_out m) (V4c_ne m)) d none (fun _ h => nomatch h) .ret Q
  refine BI.Entails.trans ?_ h
  rw [hpre, hpost]
  rw [← Pipeline.unscopedBufs_held, ← Pipeline.unscopedBufs_held]
  change BIBase.Entails (PROP := sProp 𝕄) _ _
  refine sep_mono (wand_mono .rfl ?_) .rfl
  rw [wp_ret]
  iintro H
  imodintro
  iexact H

end Cert.Proof.KernelIdeal

end
-- ==== Proof.Ideal.Run.lean ====
/-
  The launch: the program runs, every semaphore ends at zero, and every buffer of the core ends at the
  valuation its steps compose.
-/
module

public import proofs.«01_k».proof.Proof.Ideal.Main

@[expose] public section

set_option maxRecDepth 16384

noncomputable section

namespace Cert.Proof.KernelIdeal

open Cert.KernelIdeal Cert.KernelIdeal.Facts₀ Cert.KernelIdeal.Facts
open Idealize.ShloMosaic Idealize.ShloMosaic.TcCoe
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held after)

variable {F : FTy → Type} [FloatOps F] [Named F]

local notation "𝕄" => MM F

/-- After the call's handshakes the core owes nothing; its recorded pairs are early ones. -/
theorem tcSt_settled (d : Dev nD) :
    ((K (F := F)).tcSt EH d 1 : sProp 𝕄) ⊢ iprop(settled (F := F) d ∗ (settled (F := F) d -∗ (K (F := F)).tcSt EH d 1)) := by
  unfold SparseCore.Cfg.tcSt
  rw [(K (F := F)).Otc_end d (n := 1) (le_refl 1)]
  iintro ⟨⟨%W, %hW, HO⟩, Hrest⟩
  isplitl [HO]
  · iexists W
    isplitr
    · ipureintro; exact hW
    iexact HO
  iintro ⟨%W', %hW', HO⟩
  isplitl [HO]
  · iexists W'
    isplitr
    · ipureintro; exact hW'
    iexact HO
  iexact Hrest

variable (m : (ℓ : Loc nD τ sig) → Buf (Elt F) ℓ) (ρ : Dev nD → PrngReg)

/-- What the core ends with. -/
abbrev FIN (d : Dev nD) : sProp 𝕄 := held (d : Thread nD τ) (Pipeline.ucRefs τ sig) (V5 m d)

theorem launch_held (d : Dev nD) :
    (unscopedBufs d (fun b : Ref sig .tc => m ((SparseCore.T d).loc b)) : sProp 𝕄) = held (d : Thread nD τ) (Pipeline.ucRefs τ sig) (V0 m d) :=
  Pipeline.unscopedBufs_held d (V0 m d)

theorem hmain [∀ e, Nonempty (Elt F e)] (κ : GSem nD τ sig → ℕ) (d : Dev nD) :
    iprop((K (F := F)).ctx EH (P m (iv m)) κ ∗ (K (F := F)).tcSt EH d 0 ∗ (K (F := F)).tcRes m ρ d ∗ ghost d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [launch_held, main_eq]
  iintro ⟨#Hctx, Hst, ⟨Hb, Hbufs, Hts, -⟩, Hg⟩
  iapply (StableHlo.wp_seq 𝒱 none Set.univ d (Pipeline.ucRefs τ sig) _ ops0 ops0_sub ops0_fresh (V0 m d)) $$ [Hb Hbufs]
  · isplitl [Hb] <;> iassumption
  iintro ⟨Hb, Hbufs⟩
  rw [wp_bind]
  iapply (wp_call m κ d) $$ [Hst Hbufs Hb Hts Hg]
  isplitr; · iexact Hctx
  isplitl [Hst]; · iexact Hst
  isplitl [Hbufs]; · iexact Hbufs
  iintro ⟨Hst, Hbufs⟩
  iapply (StableHlo.wp_seq 𝒱 none Set.univ d (Pipeline.ucRefs τ sig) _ ops1 ops1_sub ops1_fresh (V2 m d)) $$ [Hb Hbufs]
  · isplitl [Hb] <;> iassumption
  iintro ⟨Hb, Hbufs⟩
  ihave Hst' := (tcSt_settled d) $$ Hst
  icases Hst' with ⟨Hset, Hback⟩
  ihave Hlev := ((K (F := F)).ctx_levAts κ) $$ Hctx
  rw [wp_bind]
  iapply (wp_region m d) $$ [Hb Hbufs Hset Hback Hts Hg Hlev]
  isplitr [Hb Hbufs Hset Hg Hlev]
  · iintro ⟨Hb, Hbufs, Hset⟩
    iapply (StableHlo.wp_seq 𝒱 none Set.univ d (Pipeline.ucRefs τ sig) _ ops2 ops2_sub ops2_fresh (V4 m d)) $$ [Hb Hbufs]
    · isplitl [Hb] <;> iassumption
    iintro ⟨Hb, Hbufs⟩
    rw [wp_pure]
    imodintro
    isplitl [Hset Hback]
    · iapply Hback; iexact Hset
    isplitl [Hbufs]; · iexact Hbufs
    isplitl [Hb] <;> iassumption
  isplitl [Hb]; · iexact Hb
  isplitl [Hbufs Hset]
  · isplitl [Hbufs]; · iexact Hbufs
    iexact Hset
  isplitl [Hlev]; · iexact Hlev
  iexact Hg

/-! ### The launch element -/

def u₀ : UU := (initOf (K (F := F)).hsCells (K (F := F)).hsToks,
  (initOf (Pipeline.cells (Pipeline.pin (pcfgs (F := F)) adm) Gen.cellOf_inj) (Pipeline.launchToks (Pipeline.pin (pcfgs (F := F)) adm) Gen.cellOf_inj), 1))

theorem ownU_parts (a : UH) (b : UP) : (ownU ((a, (b, 1)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

theorem hu₀ : (ownU (u₀ (F := F)) : sProp 𝕄)
    ⊢ |={Set.univ}=> iprop(BI.own (EH (initOf (K (F := F)).hsCells (K (F := F)).hsToks)) ∗ (bigSep Finset.univ fun d : Dev nD => ghost d)
        ∗ bigSep Finset.univ fun thr : Thread nD τ => bigSep Finset.univ fun q : Fin 1 => (P m (iv m)).x q thr) := by
  have hx : (bigSep Finset.univ fun thr : Thread nD τ => bigSep Finset.univ fun q : Fin 1 => (P m (iv m)).x q thr) = (iprop(emp) : sProp 𝕄) := by
    rw [show (fun thr : Thread nD τ => bigSep Finset.univ fun q : Fin 1 => (P m (iv m)).x q thr) = fun _ => (iprop(emp) : sProp 𝕄) from
      funext fun thr => bigSep_univ_of_subsingleton (0 : Fin 1)]
    exact bigSep_emp_const _
  rw [hx]
  unfold u₀
  have hfund := Pipeline.fund_ghost (Ix := HIx 1) (Val := Elt F) (Name := ℕ) (U := UU) (Lvl := ℕ) (Pipeline.pin (pcfgs (F := F)) adm) EP Gen.cellOf_inj
  iintro H
  ihave H' := (ownU_parts _ _) $$ H
  icases H' with ⟨HH, HP⟩
  imod hfund $$ HP with ⟨Hc, Ht⟩
  imodintro
  isplitl [HH]; · iexact HH
  isplitl
  · rw [bigSep_sep']
    isplitl [Hc]
    · iapply (Entails.of_eq (bigSep_congr fun d _ => bigSep_univ_of_subsingleton (0 : Fin 1))) $$ Hc
    · iapply (Entails.of_eq (bigSep_congr fun d _ => bigSep_univ_of_subsingleton (0 : Fin 1))) $$ Ht
  iempintro

/-! ### The run -/

def fq (d : Dev nD) (s' : Phys nD τ sig (Elt F)) : Prop := ∀ b ∈ Pipeline.ucRefs τ sig, s'.mem.mem (d, b) = V5 m d b

theorem hfin (d : Dev nD) (s' : Phys nD τ sig (Elt F)) : iprop(FIN m d ∗ SI s') ⊢ (⌜fq m d s'⌝ : sProp 𝕄) :=
  (pointsTo_read_all (Pipeline.ucRefs τ sig) (fun b => ((d, b) : Loc nD τ sig)) (V5 m d) s').trans sep_elim_left

/-- At the end every unscoped buffer of every core is at `V5`, and every semaphore at zero. -/
def QC : PUnit × MemSt nD τ sig (Elt F) → Prop :=
  fun r => (∀ d : Dev nD, ∀ b ∈ Pipeline.ucRefs τ sig, r.2.mem (d, b) = V5 m d b) ∧ r.2.sem = fun _ => 0

theorem run_main [∀ e, Nonempty (Elt F e)] (hiv : ∀ d x, BitVec.toNat (iv m d x) < 100000) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m (iv m)) (A := ∅) facts v₀
    (fun q hq => match q with | 0 => nomatch hq)
    (fun q _ => match q with | 0 => tileObl m (iv m) hiv)
    (fun q _ => match q with | 0 => SparseCore.Cfg.VecSplit.of_plain (vecSplit m (iv m)))
    m ρ main ghost (FIN m) (u₀ (F := F)) (sep_elim_left.trans (hu₀ m)) (hmain m ρ) (fq m) (hfin m) (QC m) (fun _ h hz => ⟨h, hz⟩)

end Cert.Proof.KernelIdeal

end
-- ==== Proof.Ideal.Frame.lean ====
/-
  What the run leaves: the nine arguments as they were, every semaphore at zero, the result the last line's.
-/
module

public import proofs.«01_k».proof.Proof.Ideal.Run
public import proofs.«01_k».proof.Proof.Words

@[expose] public section

set_option maxRecDepth 16384

noncomputable section

namespace Cert.Proof.KernelIdeal

open Cert.KernelIdeal Cert.KernelIdeal.Facts₀ Cert.KernelIdeal.Facts
open Idealize.ShloMosaic Idealize.ShloMosaic.TcCoe
open Idealize.SL.Sem
open Idealize.ShloMosaic.StableHlo (after)

variable {F : FTy → Type} [FloatOps F] [Named F]
variable (m : (ℓ : Loc nD τ sig) → Buf (Elt F) ℓ)

/-- What each line of host operations writes. -/
def W0 : List (Ref sig .tc) := [main_v0, main_v1, main_v2, main_v3, main_c, main_call0_v0, main_v4]
def W1 : List (Ref sig .tc) := [main_v6, main_v7, main_v8, main_v9, main_v10, main_cst, main_v11, main_v12, main_c_0, main_v13, main_v14, main_cst_1,
  main_v15, main_c_2, main_v16, main_c_3, main_v17, main_v18, main_v19, main_v20, main_v21]

theorem V1_old {r : Ref sig .tc} (h : r ∉ W0) (d : Dev nD) : V1 m d (Proc.devRef .tc r) = m (d, Proc.devRef .tc r) :=
  StableHlo.after_unwritten W0 rfl h (V0 m d)

theorem V3_old {r : Ref sig .tc} (h0 : r ∉ W0) (h1 : r ∉ W1) (h5 : r ≠ main_v5) (d : Dev nD) :
    V3 m d (Proc.devRef .tc r) = m (d, Proc.devRef .tc r) :=
  (StableHlo.after_unwritten W1 rfl h1 (V2 m d)).trans
    ((Function.update_of_ne (fun e => h5 (Proc.devRef_injective _ e)) _ _).trans (V1_old m h0 d))

theorem V5_old {r : Ref sig .tc} (h0 : r ∉ W0) (h1 : r ∉ W1) (h5 : r ≠ main_v5) (h22 : r ≠ main_v22) (h23 : r ∉ [main_v23]) (d : Dev nD) :
    V5 m d (Proc.devRef .tc r) = m (d, Proc.devRef .tc r) :=
  (StableHlo.after_unwritten [main_v23] rfl h23 (V4 m d)).trans
    ((Function.update_of_ne (fun e => h22 (Proc.devRef_injective _ e)) _ _).trans (V3_old m h0 h1 h5 d))

/-- The lists the SparseCore call is given. -/
theorem iv_eq (d : Dev nD) : iv m d = lists (m (d, main_arg0)) (m (d, main_arg1)) := by
  refine Eq.trans ?_ (lists_eq (m (d, main_arg0)) (m (d, main_arg1)) shapeCasts_S4096x50_S204800 concatenates_S204800_S204800_S409600_d0
    shapeCasts_S409600_S32x128x100 pads_S32x128x100_S32x128x104_000_000_040 h_S_)
  unfold iv V1 ops0
  after_reads_simp
  rfl

/-- What the run leaves of the arguments, the semaphores and the result. -/
def Left (r : PUnit × MemSt nD τ sig (Elt F)) : Prop :=
  (∀ c : Dev nD, r.2.mem (c, main_v23) = V5 m c main_v23
    ∧ r.2.mem (c, main_arg0) = m (c, main_arg0) ∧ r.2.mem (c, main_arg1) = m (c, main_arg1) ∧ r.2.mem (c, main_arg2) = m (c, main_arg2)
    ∧ r.2.mem (c, main_arg3) = m (c, main_arg3) ∧ r.2.mem (c, main_arg4) = m (c, main_arg4) ∧ r.2.mem (c, main_arg5) = m (c, main_arg5)
    ∧ r.2.mem (c, main_arg6) = m (c, main_arg6) ∧ r.2.mem (c, main_arg7) = m (c, main_arg7) ∧ r.2.mem (c, main_arg8) = m (c, main_arg8))
  ∧ r.2.sem = fun _ => 0

theorem left_of_QC {r : PUnit × MemSt nD τ sig (Elt F)} (h : QC m r) : Left m r := by
  have old : ∀ (c : Dev nD) (b : Ref sig .tc), Proc.devRef .tc b ∈ Pipeline.ucRefs τ sig → b ∉ W0 → b ∉ W1 → b ≠ main_v5 → b ≠ main_v22 → b ∉ [main_v23] →
      r.2.mem (c, Proc.devRef .tc b) = m (c, Proc.devRef .tc b) :=
    fun c b hb h0 h1 h5 h22 h23 => (h.1 c _ hb).trans (V5_old m h0 h1 h5 h22 h23 c)
  refine ⟨fun c => ⟨h.1 c _ (by decide), ?_, ?_, ?_, ?_, ?_, ?_, ?_, ?_, ?_⟩, h.2⟩ <;>
    exact old c _ (by decide) (by decide) (by decide) (by decide) (by decide) (by decide)

theorem run_left [∀ e, Nonempty (Elt F e)] (ρ : Dev nD → PrngReg)
    (ha : ∀ d i, BitVec.toNat (m (d, main_arg0) i) < 100000) (hb : ∀ d i, BitVec.toNat (m (d, main_arg1) i) < 100000) :
    θ_run (Cert.KernelIdeal.defs (F := F)) (Cert.KernelIdeal.threads (F := F)) ⟨m, fun _ => 0, ρ⟩ (Left m) :=
  (θ_run _ _ _).mono (fun _ h => left_of_QC m h) (run_main m ρ fun d x => by rw [iv_eq]; exact lists_lt (ha d) (hb d) x)

end Cert.Proof.KernelIdeal

end
-- ==== Proof.Frames.lean ====
/-
  The frames of the three programs, and the named constant.
-/
module

public import proofs.«01_k».proof.Defs
public import proofs.«01_k».proof.Proof.Frame
public import proofs.«01_k».proof.Proof.Ideal.Frame
public import proofs.«01_k».proof.Proof.Gen.ReferenceIdeal
public import proofs.«01_k».proof.Proof.Gen.ReferenceIdeal.Run
public import proofs.«01_k».proof.Proof.Gen.Pre_in_vocab

@[expose] public section

noncomputable section

namespace Cert.Proof

open Idealize.ShloMosaic Idealize.SL.Sem

theorem run_kernel (m : (ℓ : Loc Cert.Kernel.nD Cert.Kernel.τ Cert.Kernel.sig) → Buf (Elt Bits) ℓ) (ρ : Dev Cert.Kernel.nD → PrngReg)
    (h : Cert.Pre_Kernel m) :
    θ_run (Cert.Kernel.defs (F := Bits)) (Cert.Kernel.threads (F := Bits)) ⟨m, fun _ => 0, ρ⟩ (Kernel.Left m) :=
  Kernel.run_left m ρ (fun d => (words_lt _ _ _ _ _ _ _ _ _ (h d)).1) (fun d => (words_lt _ _ _ _ _ _ _ _ _ (h d)).2)

theorem run_ideal (m : (ℓ : Loc Cert.KernelIdeal.nD Cert.KernelIdeal.τ Cert.KernelIdeal.sig) → Buf (Elt Ideal) ℓ) (ρ : Dev Cert.KernelIdeal.nD → PrngReg)
    (h : Cert.Pre_KernelIdeal m) :
    θ_run (Cert.KernelIdeal.defs (F := Ideal)) (Cert.KernelIdeal.threads (F := Ideal)) ⟨m, fun _ => 0, ρ⟩ (KernelIdeal.Left m) :=
  KernelIdeal.run_left m ρ (fun d => (words_lt _ _ _ _ _ _ _ _ _ (h d)).1) (fun d => (words_lt _ _ _ _ _ _ _ _ _ (h d)).2)

theorem frame_kernel : Cert.quiescent_Kernel := fun m ρ h =>
  (θ_run _ _ _).mono (fun _ e => ⟨fun c => (e.1 c).2, e.2⟩) (run_kernel m ρ h)

theorem frame_ideal : Cert.quiescent_KernelIdeal := fun m ρ h =>
  (θ_run _ _ _).mono (fun _ e => ⟨fun c => (e.1 c).2, e.2⟩) (run_ideal m ρ h)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem preserves_named : Cert.preserves_Kernel_KernelIdeal :=
  IdealRules.named_const.statement Cert.KernelIdeal.κ "inv_l" .f32 0x3CA3D70A#32 _ rfl

end Cert.Proof

end
-- ==== Proof.Dense.lean ====
/-
  The dense layers' call over the extended reals: what it stores at a row and a column.
-/
module

public import proofs.«01_k».proof.Proof.Ideal.Region
public import Idealize.ShloMosaic.Lib.Pointwise
public import Idealize.ShloMosaic.Lib.Pipeline.ValueKit
public import Idealize.ShloMosaic.PureOps.Ideal

@[expose] public section

set_option maxRecDepth 16384

noncomputable section

namespace Cert.Proof

open Idealize.ShloMosaic

/-- The three layers at one example and one result column, from the example's two rows of sums, with the weights of
    the first layer scaled by `c`. -/
def dense (c : EReal) (s1 s2 : Fin 128 → EReal) (wa wb : Fin 128 → Fin 1024 → EReal) (b1 : Fin 1024 → EReal) (w2 : Fin 1024 → Fin 512 → EReal)
    (b2 : Fin 512 → EReal) (w3 : Fin 512 → EReal) (b3 : EReal) : EReal :=
  ∑ k, max (∑ n, max (∑ j, s1 j * (wa j n * c) + ∑ j, s2 j * (wb j n * c) + b1 n) 0 * w2 n k + b2 k) 0 * w3 k + b3

end Cert.Proof

namespace Cert.Proof.KernelIdeal

open Cert.KernelIdeal Cert.KernelIdeal.Facts₀ Cert.KernelIdeal.Facts
open Idealize.ShloMosaic Idealize.ShloMosaic.TcCoe

theorem inv_l_eq : (Named.named (F := Ideal) Cert.KernelIdeal.κ "inv_l" (φ := .f32) 0x3CA3D70A#32) = ((50⁻¹ : ℝ) : EReal) := rfl

theorem pay_apply (x0 x1 : Vec Ideal S512x128 .f32) (x2 x3 : Vec Ideal S128x1024 .f32) (x4 : Vec Ideal S1x1024 .f32) (x5 : Vec Ideal S1024x512 .f32)
    (x6 : Vec Ideal S1x512 .f32) (x7 : Vec Ideal S512x128 .f32) (x8 : Vec Ideal S1x128 .f32) (y : S512x128.Idx) :
    Gen.k1_pay1 (Gen.k1_pay2 x0 x2 x1 x3 x4 x5 x6 x7) x8 y
      = dense ((50⁻¹ : ℝ) : EReal) (fun j => x0 (ix2 (y 0) j)) (fun j => x1 (ix2 (y 0) j)) (fun j n => x2 (ix2 j n)) (fun j n => x3 (ix2 j n))
          (fun n => x4 (ix2 0 n)) (fun n k => x5 (ix2 n k)) (fun k => x6 (ix2 0 k)) (fun k => x7 (ix2 k (y 1))) (x8 (ix2 0 (y 1))) := by
  pointwise [Gen.k1_pay1, Gen.k1_pay2, inv_l_eq, dense]

theorem layer_eq (x0 x1 : Vec Ideal S512x128 .f32) (x2 x3 : Vec Ideal S128x1024 .f32) (x4 : Vec Ideal S1x1024 .f32) (x5 : Vec Ideal S1024x512 .f32)
    (x6 : Vec Ideal S1x512 .f32) (x7 : Vec Ideal S512x128 .f32) (x8 : Vec Ideal S1x128 .f32) :
    layer x0 x1 x2 x3 x4 x5 x6 x7 x8 = Gen.k1_pay1 (Gen.k1_pay2 x0 x2 x1 x3 x4 x5 x6 x7) x8 := by
  unfold layer
  frame_out

theorem index_out : ∀ t : Fin cfg1.N, win1_9.index t = ![t.val, 0] := (by decide +kernel : ∀ t : Fin grid1.N, _)
theorem index_0 : ∀ t : Fin cfg1.N, win1_0.index t = ![t.val, 0] := (by decide +kernel : ∀ t : Fin grid1.N, _)
theorem index_1 : ∀ t : Fin cfg1.N, win1_1.index t = ![t.val + 8, 0] := (by decide +kernel : ∀ t : Fin grid1.N, _)
theorem index_2 : ∀ t : Fin cfg1.N, win1_2.index t = ![0, 0] := (by decide +kernel : ∀ t : Fin grid1.N, _)
theorem index_3 : ∀ t : Fin cfg1.N, win1_3.index t = ![0, 0] := (by decide +kernel : ∀ t : Fin grid1.N, _)
theorem index_4 : ∀ t : Fin cfg1.N, win1_4.index t = ![0, 0] := (by decide +kernel : ∀ t : Fin grid1.N, _)
theorem index_5 : ∀ t : Fin cfg1.N, win1_5.index t = ![0, 0] := (by decide +kernel : ∀ t : Fin grid1.N, _)
theorem index_6 : ∀ t : Fin cfg1.N, win1_6.index t = ![0, 0] := (by decide +kernel : ∀ t : Fin grid1.N, _)
theorem index_7 : ∀ t : Fin cfg1.N, win1_7.index t = ![0, 0] := (by decide +kernel : ∀ t : Fin grid1.N, _)
theorem index_8 : ∀ t : Fin cfg1.N, win1_8.index t = ![0, 0] := (by decide +kernel : ∀ t : Fin grid1.N, _)

variable (V : Conts Ideal)

/-- The result array of the dense layers' call. -/
def denseOf (c : Dev nD) (i : S4096x128.Idx) : EReal :=
  dense ((50⁻¹ : ℝ) : EReal)
    (fun j => V c main_v5 (ix2 (n0 := 8192) (n1 := 128) ⟨(i 0).val, lt_trans (i 0).isLt (by decide)⟩ j))
    (fun j => V c main_v5 (ix2 (n0 := 8192) (n1 := 128) ⟨(i 0).val + 4096, Nat.add_lt_add_right (i 0).isLt 4096⟩ j))
    (fun j n => V c main_v7 (ix2 (n0 := 128) (n1 := 1024) j n)) (fun j n => V c main_v9 (ix2 (n0 := 128) (n1 := 1024) j n))
    (fun n => V c main_v20 (ix2 (n0 := 1) (n1 := 1024) 0 n)) (fun n k => V c main_v10 (ix2 (n0 := 1024) (n1 := 512) n k))
    (fun k => V c main_v21 (ix2 (n0 := 1) (n1 := 512) 0 k)) (fun k => V c main_v14 (ix2 (n0 := 512) (n1 := 128) k (i 1)))
    (V c main_v19 (ix2 (n0 := 1) (n1 := 128) 0 (i 1)))

theorem mlp_eq (c : Dev nD) : mlp V c = denseOf V c := by
  unfold mlp
  refine (dat V c).arrAt_eq_of_covers 9 _ (by decide +kernel) fun t hf y => ?_
  blk_simp
  rw [dat_after_out]
  unfold layerAt
  rw [layer_eq]
  refine (pay_apply _ _ _ _ _ _ _ _ _ _).trans ?_
  unfold denseOf blockAt
  blk_point [index_out t, index_0 t, index_1 t, index_2 t, index_3 t, index_4 t, index_5 t, index_6 t, index_7 t, index_8 t]

end Cert.Proof.KernelIdeal

end
-- ==== Proof.PoolIdeal.lean ====
/-
  The sums of table rows over the extended reals, example by example.
-/
module

public import proofs.«01_k».proof.Proof.Pool
public import proofs.«01_k».proof.Proof.Words
public import Idealize.ShloMosaic.PureOps.Ideal

@[expose] public section

noncomputable section

namespace Cert.Proof

open Idealize.ShloMosaic Idealize.ShloMosaic.ValueIdx

theorem sumTo_eq (g : ℕ → Ideal .f32) : ∀ n, sumTo (F := Ideal) g n = (∑ j : Fin (n + 1), (g j.val : EReal) : EReal)
  | 0 => by
    rw [Fin.sum_univ_one]
    rfl
  | n + 1 => by
    rw [Fin.sum_univ_castSucc]
    show (sumTo (F := Ideal) g n : EReal) + (g (n + 1) : EReal) = _
    rw [sumTo_eq g n]
    rfl

/-- The word in place `j` of row `r` of both arrays of row numbers stacked. -/
theorem lists_row (a b : SB.Idx → BitVec 32) (r j : ℕ) (hr : r < 8192) (hj : j < 50) :
    lists a b (ix3 (Fin.ofNat 32 (r / 256)) (Fin.ofNat 128 (r % 256 / 2)) (Fin.ofNat 104 (50 * (r % 256 % 2) + j))) = flatAt a b (50 * r + j) := by
  unfold lists
  have e2 : (50 * (r % 256 % 2) + j) % 104 = 50 * (r % 256 % 2) + j := by omega
  show (if (50 * (r % 256 % 2) + j) % 104 < 100 then flatAt a b (((r / 256) % 32 * 128 + (r % 256 / 2) % 128) * 100 + (50 * (r % 256 % 2) + j) % 104) else 0#32) = _
  rw [e2, if_pos (by omega)]
  congr 1
  omega

theorem flatAt_first (a b : SB.Idx → BitVec 32) (p : Fin 4096) (j : Fin 50) : flatAt a b (50 * p.val + j.val) = a (ix2 p j) := by
  unfold flatAt
  rw [if_pos (by omega), show (50 * p.val + j.val) / 50 = p.val by omega, show (50 * p.val + j.val) % 50 = j.val by omega]
  congr 2 <;> exact Fin.ext (Nat.mod_eq_of_lt (Fin.isLt _))

theorem flatAt_second (a b : SB.Idx → BitVec 32) (p : Fin 4096) (j : Fin 50) : flatAt a b (50 * (p.val + 4096) + j.val) = b (ix2 p j) := by
  unfold flatAt
  rw [if_neg (by omega), show (50 * (p.val + 4096) + j.val - 204800) / 50 = p.val by omega,
    show (50 * (p.val + 4096) + j.val - 204800) % 50 = j.val by omega]
  congr 2 <;> exact Fin.ext (Nat.mod_eq_of_lt (Fin.isLt _))

variable (tab : (⟨2, ![100000, 128]⟩ : Shape).Idx → Elt Ideal .f32) (a b : SB.Idx → BitVec 32)

theorem pooled_row (r : Fin 8192) (y : Fin 128) :
    pooled (F := Ideal) tab (lists a b) (ix2 r y)
      = (∑ j : Fin 50, (tab (ix2 (Fin.ofNat 100000 (flatAt a b (50 * r.val + j.val)).toNat) y) : EReal) : EReal) := by
  unfold pooled res pool1
  rw [sumTo_eq]
  refine Finset.sum_congr rfl fun j _ => ?_
  unfold gbuf
  show tab (ix2 (Fin.ofNat 100000 (lists a b (ix3 (Fin.ofNat 32 (r.val / 256)) (Fin.ofNat 128 (r.val % 256 % 256 / 2))
    (Fin.ofNat 104 (50 * (r.val % 256 % 256 % 2) + j.val)))).toNat) y) = _
  rw [show r.val % 256 % 256 = r.val % 256 by omega, lists_row a b r.val j.val r.isLt j.isLt]

theorem pooled_first (p : Fin 4096) (y : Fin 128) :
    pooled (F := Ideal) tab (lists a b) (ix2 ⟨p.val, by omega⟩ y)
      = (∑ j : Fin 50, (tab (ix2 (Fin.ofNat 100000 (a (ix2 p j)).toNat) y) : EReal) : EReal) :=
  (pooled_row tab a b _ y).trans (Finset.sum_congr rfl fun j _ => by rw [flatAt_first])

theorem pooled_second (p : Fin 4096) (y : Fin 128) :
    pooled (F := Ideal) tab (lists a b) (ix2 ⟨p.val + 4096, by omega⟩ y)
      = (∑ j : Fin 50, (tab (ix2 (Fin.ofNat 100000 (b (ix2 p j)).toNat) y) : EReal) : EReal) :=
  (pooled_row tab a b _ y).trans (Finset.sum_congr rfl fun j _ => by rw [flatAt_second])

end Cert.Proof

end
-- ==== Proof.Weights.lean ====
/-
  What the dense layers' call finds in the arrays the host laid out for it, and what the host returns.
-/
module

public import proofs.«01_k».proof.Proof.Dense
public import proofs.«01_k».proof.Proof.PoolIdeal
public import proofs.«01_k».proof.Proof.Ideal.Frame
public import Idealize.ShloMosaic.Lib.Routing.OpsSet

@[expose] public section

set_option maxRecDepth 16384

noncomputable section

namespace Cert.Proof.KernelIdeal

open Cert.KernelIdeal Cert.KernelIdeal.Facts₀ Cert.KernelIdeal.Facts
open Idealize.ShloMosaic Idealize.ShloMosaic.TcCoe
open Idealize.ShloMosaic.StableHlo (after)

/-! ### An array written into a corner of an array of zeros -/

theorem scatter_corner {α : Type} {s si u : Shape} {w : ℕ} (D : ScatterDims s si u) (x : s.Idx → α) (idx : IVec si w) (upd : u.Idx → α) (i : s.Idx) (j : u.Idx)
    (h0 : ∀ k, (idx k).toInt = 0) (hw : ∀ k, (∀ a, D.window k a = (i a).val) ↔ k = j) :
    Host.scatter D (fun _ b => b) x idx upd i = upd j := by
  have hs : ∀ k a, D.start k idx a = 0 := by
    intro k a
    unfold ScatterDims.start
    split
    · exact h0 _
    · rfl
  have key : ∀ k, D.resultIdx? k idx = some i ↔ k = j := by
    intro k
    rw [Routing.resultIdx?_eq_some, ← hw k]
    simp only [hs, zero_add, Nat.cast_inj]
  exact Routing.scatter_set_hit D x idx upd i _ (fun k hk => congrArg upd ((key k).mp hk)) j ((key j).mpr rfl)

variable (m : (ℓ : Loc nD τ sig) → Buf (Elt Ideal) ℓ) (d : Dev nD)

theorem pre_arg {r : Ref sig .tc} (h0 : r ∉ W0) (h5 : r ≠ main_v5) : V2 m d r = m (d, r) := by
  unfold V2
  rw [Function.update_of_ne (fun e => h5 (Proc.devRef_injective _ e))]
  exact V1_old m h0 d

theorem V3_v5 : V3 m d main_v5 = pooled (m (d, main_arg2)) (lists (m (d, main_arg0)) (m (d, main_arg1))) := by
  refine (StableHlo.after_unwritten W1 rfl (by decide) (V2 m d)).trans ((Function.update_self ..).trans ?_)
  unfold sums tab
  rw [iv_eq]

theorem V3_v7 (j : Fin 128) (n : Fin 1024) :
    V3 m d main_v7 (ix2 (n0 := 128) (n1 := 1024) j n) = m (d, main_arg3) (ix2 (n0 := 1024) (n1 := 256) n ⟨j.val, by omega⟩) := by
  unfold V3 ops1
  after_reads_simp
  rw [pre_arg m d (by decide) (by decide)]
  pointwise

theorem V3_v9 (j : Fin 128) (n : Fin 1024) :
    V3 m d main_v9 (ix2 (n0 := 128) (n1 := 1024) j n) = m (d, main_arg3) (ix2 (n0 := 1024) (n1 := 256) n ⟨128 + j.val, by omega⟩) := by
  unfold V3 ops1
  after_reads_simp
  rw [pre_arg m d (by decide) (by decide)]
  pointwise

theorem V3_v10 (n : Fin 1024) (k : Fin 512) :
    V3 m d main_v10 (ix2 (n0 := 1024) (n1 := 512) n k) = m (d, main_arg5) (ix2 (n0 := 512) (n1 := 1024) k n) := by
  unfold V3 ops1
  after_reads_simp
  rw [pre_arg m d (by decide) (by decide)]
  pointwise

theorem V3_v20 (n : Fin 1024) : V3 m d main_v20 (ix2 (n0 := 1) (n1 := 1024) 0 n) = m (d, main_arg4) (ix1 (n0 := 1024) n) := by
  unfold V3 ops1
  after_reads_simp
  rw [pre_arg m d (by decide) (by decide)]
  pointwise

theorem V3_v21 (k : Fin 512) : V3 m d main_v21 (ix2 (n0 := 1) (n1 := 512) 0 k) = m (d, main_arg6) (ix1 (n0 := 512) k) := by
  unfold V3 ops1
  after_reads_simp
  rw [pre_arg m d (by decide) (by decide)]
  pointwise

theorem V3_v14 (k : Fin 512) (l : Fin 2) :
    V3 m d main_v14 (ix2 (n0 := 512) (n1 := 128) k ⟨l.val, by omega⟩) = m (d, main_arg7) (ix2 (n0 := 2) (n1 := 512) l k) := by
  unfold V3 ops1
  after_reads_simp
  rw [pre_arg m d (by decide) (by decide)]
  refine (scatter_corner _ _ _ _ _ (ix2 (n0 := 512) (n1 := 2) k l) (fun _ => rfl) fun q => ⟨fun h => ?_, fun h a => ?_⟩).trans ?_
  · funext a
    match a with
    | ⟨0, _⟩ => exact Fin.ext (h 0)
    | ⟨1, _⟩ => exact Fin.ext (h 1)
  · subst h
    match a with
    | ⟨0, _⟩ => rfl
    | ⟨1, _⟩ => rfl
  · pointwise

theorem V3_v19 (l : Fin 2) : V3 m d main_v19 (ix2 (n0 := 1) (n1 := 128) 0 ⟨l.val, by omega⟩) = m (d, main_arg8) (ix1 (n0 := 2) l) := by
  unfold V3 ops1
  after_reads_simp
  rw [pre_arg m d (by decide) (by decide)]
  refine scatter_corner _ _ _ _ _ (ix1 (n0 := 2) l) (fun q => ?_) fun q => ⟨fun h => ?_, fun h a => ?_⟩
  · pointwise
    split <;> after_reads_simp <;> rfl
  · funext a
    match a with
    | ⟨0, _⟩ => exact Fin.ext (h 1)
  · subst h
    match a with
    | ⟨0, _⟩ => rfl
    | ⟨1, _⟩ => rfl

/-- What the host returns, from what the dense layers' call stored. -/
theorem V5_v23 (y : S4096x2.Idx) :
    V5 m d main_v23 y = denseOf (fun c b => V3 m c b) d (ix2 (n0 := 4096) (n1 := 128) (y 0) ⟨(y 1).val, lt_trans (y 1).isLt (by decide)⟩) := by
  rw [← mlp_eq]
  unfold V5 ops2
  after_reads_simp
  rw [show V4 m d main_v22 = mlp (fun c b => V3 m c b) d from Function.update_self ..]
  pointwise

end Cert.Proof.KernelIdeal

end
-- ==== Proof.Refer.lean ====
/-
  The reference's result read at an index over the extended reals.
-/
module

public import proofs.«01_k».proof.Proof.Dense
public import proofs.«01_k».proof.Proof.Gen.ReferenceIdeal.Run
public import Idealize.ShloMosaic.Lib.ReduceAll
public import Idealize.ShloMosaic.Lib.WordCmp
public import Idealize.ShloMosaic.Lib.ValueIdxCore

@[expose] public section

set_option maxRecDepth 16384

noncomputable section

namespace Cert.Proof.Reference

open Cert.ReferenceIdeal Cert.ReferenceIdeal.Facts₀ Cert.ReferenceIdeal.Facts
open Idealize.ShloMosaic Idealize.ShloMosaic.TcCoe Idealize.ShloMosaic.WordCmp

/-- The word a row is looked up at: a negative word counts from the table's end. -/
def wrapped (x : IVec S4096x50 32) : IVec S4096x50x1 32 :=
  broadcastInDim S4096x50x1 ![0, 1] bcast_S4096x50_S4096x50x1_0_1 (select (cmpi .slt x (broadcastInDim S4096x50 ![] bcast_S_S4096x50 (constantI S_ 32 0#32))) (addi x (broadcastInDim S4096x50 ![] bcast_S_S4096x50 (constantI S_ 32 100000#32))) x)

/-- Which words lie in the table. -/
def within (x : IVec S4096x50 32) : IVec S4096x50 1 :=
  Host.reduce IntOp.andi (andi (cmpi .sge (wrapped x) (broadcastInDim S4096x50x1 ![] bcast_S_S4096x50x1 (constantI S_ 32 0#32))) (cmpi .sle (wrapped x) (broadcastInDim S4096x50x1 ![0, 1, 2] bcast_S1x1x1_S4096x50x1_0_1_2 (broadcastInDim S1x1x1 ![2] bcast_S1_S1x1x1_2 (constantI S1 32 99999#32))))) (constantI S_ 1 1#1) reducesTo_S4096x50x1_S4096x50_d2 h_S_

/-- The mean of the rows that each example's words name. -/
def means (e : FVec Ideal S100000x128 .f32) (x : IVec S4096x50 32) : FVec Ideal S4096x128 .f32 :=
  Host.divf (Host.reduceAdd (select (broadcastInDim S4096x50x128 ![0, 1] bcast_S4096x50_S4096x50x128_0_1 (within x)) (Host.gather gather_S100000x128_S4096x50x1_S4096x50x128_2_0_n_n_0_2_1128 e (wrapped x)) (broadcastInDim S4096x50x128 ![] bcast_S_S4096x50x128 (constant S_ .f32 0x7FC00000#32))) (constant S_ .f32 0x00000000#32) reducesTo_S4096x50x128_S4096x128_d1 h_S_) (broadcastInDim S4096x128 ![] bcast_S_S4096x128 (constant S_ .f32 0x42480000#32))

/-- The three layers over both inputs' means. -/
def layers (q1 q2 : FVec Ideal S4096x128 .f32) (w1 : FVec Ideal S1024x256 .f32) (b1 : FVec Ideal S1024 .f32) (w2 : FVec Ideal S512x1024 .f32)
    (b2 : FVec Ideal S512 .f32) (w3 : FVec Ideal S2x512 .f32) (b3 : FVec Ideal S2 .f32) : FVec Ideal S4096x2 .f32 :=
  addf (Host.dotGeneral dot_S4096x512_S512x2_S4096x2_1_0_0_1_n_n none (maximumf (addf (Host.dotGeneral dot_S4096x1024_S1024x512_S4096x512_1_0_0_1_n_n none (maximumf (addf (Host.dotGeneral dot_S4096x256_S256x1024_S4096x1024_1_0_0_1_n_n none (concatenate S4096x256 1 [⟨S4096x128, q1⟩, ⟨S4096x128, q2⟩] concatenates_S4096x128_S4096x128_S4096x256_d1) (transpose S256x1024 [1, 0] w1 transposes_S1024x256_S256x1024_1_0)) (broadcastInDim S4096x1024 ![0, 1] bcast_S1x1024_S4096x1024_0_1 (broadcastInDim S1x1024 ![1] bcast_S1024_S1x1024_1 b1))) (broadcastInDim S4096x1024 ![] bcast_S_S4096x1024 (constant S_ .f32 0x00000000#32))) (transpose S1024x512 [1, 0] w2 transposes_S512x1024_S1024x512_1_0)) (broadcastInDim S4096x512 ![0, 1] bcast_S1x512_S4096x512_0_1 (broadcastInDim S1x512 ![1] bcast_S512_S1x512_1 b2))) (broadcastInDim S4096x512 ![] bcast_S_S4096x512 (constant S_ .f32 0x00000000#32))) (transpose S512x2 [1, 0] w3 transposes_S2x512_S512x2_1_0)) (broadcastInDim S4096x2 ![0, 1] bcast_S1x2_S4096x2_0_1 (broadcastInDim S1x2 ![1] bcast_S2_S1x2_1 b3))

theorem res_eq (m : (ℓ : Loc nD τ sig) → Buf (Elt Ideal) ℓ) (c : Dev nD) :
    Value.res_main_v27 m c
      = layers (means (m ((c.tc : Thread nD τ).loc main_arg2)) (m ((c.tc : Thread nD τ).loc main_arg0))) (means (m ((c.tc : Thread nD τ).loc main_arg2)) (m ((c.tc : Thread nD τ).loc main_arg1)))
          (m ((c.tc : Thread nD τ).loc main_arg3)) (m ((c.tc : Thread nD τ).loc main_arg4)) (m ((c.tc : Thread nD τ).loc main_arg5)) (m ((c.tc : Thread nD τ).loc main_arg6))
          (m ((c.tc : Thread nD τ).loc main_arg7)) (m ((c.tc : Thread nD τ).loc main_arg8)) := rfl

theorem layers_apply (q1 q2 : FVec Ideal S4096x128 .f32) (w1 : FVec Ideal S1024x256 .f32) (b1 : FVec Ideal S1024 .f32) (w2 : FVec Ideal S512x1024 .f32)
    (b2 : FVec Ideal S512 .f32) (w3 : FVec Ideal S2x512 .f32) (b3 : FVec Ideal S2 .f32) (y : S4096x2.Idx) :
    layers q1 q2 w1 b1 w2 b2 w3 b3 y
      = dense 1 (fun j => q1 (ix2 (y 0) j)) (fun j => q2 (ix2 (y 0) j)) (fun j n => w1 (ix2 (n0 := 1024) (n1 := 256) n ⟨j.val, by omega⟩))
          (fun j n => w1 (ix2 (n0 := 1024) (n1 := 256) n ⟨128 + j.val, by omega⟩)) (fun n => b1 (ix1 n)) (fun n k => w2 (ix2 k n)) (fun k => b2 (ix1 k))
          (fun k => w3 (ix2 (y 1) k)) (b3 (ix1 (y 1))) := by
  unfold dense
  simp only [mul_one]
  pointwise [layers]

/-! ### The look-up -/

theorem word_lt_zero {w : BitVec 32} (h : w.toNat < 100000) : IntOp.cmpi .slt w 0#32 = 0#1 := by
  rw [cmpi_slt_zero, decide_eq_false (by omega)]
  rfl

theorem word_ge_zero {w : BitVec 32} (h : w.toNat < 100000) : IntOp.cmpi .sge w 0#32 = 1#1 := by
  rw [cmpi_sge_zero, decide_eq_true (by omega)]
  rfl

theorem word_le_last {w : BitVec 32} (h : w.toNat < 100000) : IntOp.cmpi .sle w 99999#32 = 1#1 := by
  rw [cmpi_sle_of_lt (by omega) (by decide), decide_eq_true (show w.toNat ≤ (99999#32).toNat from Nat.le_of_lt_succ h)]
  rfl

theorem wrapped_apply (x : IVec S4096x50 32) (hx : ∀ i, (x i).toNat < 100000) (y : S4096x50x1.Idx) :
    wrapped x y = x (ix2 (y 0) (y 1)) := by
  pointwise [wrapped]
  rw [word_lt_zero (hx _), select_zero]

theorem within_apply (x : IVec S4096x50 32) (hx : ∀ i, (x i).toNat < 100000) (y : S4096x50.Idx) : within x y = 1#1 := by
  unfold within
  refine Host.reduce_andi_one _ _ _ _ _ rfl fun i => ?_
  rw [andi_at, cmpi_at, cmpi_at, wrapped_apply x hx]
  show IntOp.andi (IntOp.cmpi .sge _ 0#32) (IntOp.cmpi .sle _ 99999#32) = 1#1
  rw [word_ge_zero (hx _), word_le_last (hx _)]
  rfl

theorem gather_apply (e : FVec Ideal S100000x128 .f32) (x : IVec S4096x50 32) (hx : ∀ i, (x i).toNat < 100000) (y : S4096x50x128.Idx) :
    Host.gather gather_S100000x128_S4096x50x1_S4096x50x128_2_0_n_n_0_2_1128 e (wrapped x) y
      = e (ix2 (n0 := 100000) (n1 := 128) (Fin.ofNat 100000 (x (ix2 (y 0) (y 1))).toNat) (y 2)) := by
  unfold Host.gather
  congr 1
  funext a
  refine Fin.ext ?_
  show gather_S100000x128_S4096x50x1_S4096x50x128_2_0_n_n_0_2_1128.start y (wrapped x) a + gather_S100000x128_S4096x50x1_S4096x50x128_2_0_n_n_0_2_1128.batchCoord y a
      + gather_S100000x128_S4096x50x1_S4096x50x128_2_0_n_n_0_2_1128.offCoord y a = _
  rw [GatherDims.batchCoord_eq_zero _ _ _ List.not_mem_nil, Nat.add_zero]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ gather_S100000x128_S4096x50x1_S4096x50x128_2_0_n_n_0_2_1128.startIndexMap from List.mem_singleton.mpr rfl), wrapped_apply x hx]
    have hl := hx (ix2 (y 0) (y 1))
    have e : (x (ix2 (y 0) (y 1))).toInt = ((x (ix2 (y 0) (y 1))).toNat : Int) := toInt_eq_toNat_of_lt_half (by omega)
    show min (x (ix2 (y 0) (y 1))).toInt.toNat (100000 - 1) = (x (ix2 (y 0) (y 1))).toNat % 100000
    rw [e]
    omega
  · unfold GatherDims.start
    rw [dif_neg (by decide), Nat.zero_add]
    rfl

theorem fifty : Ideal.ofBits .f32 0x42480000#32 = ((50 : ℝ) : EReal) := by
  simp [Ideal.ofBits, Ideal.ieee, -EReal.coe_mul]
  norm_num

theorem means_apply (e : FVec Ideal S100000x128 .f32) (x : IVec S4096x50 32) (hx : ∀ i, (x i).toNat < 100000) (y : S4096x128.Idx) :
    means e x y
      = (∑ l : Fin 50, e (ix2 (n0 := 100000) (n1 := 128) (Fin.ofNat 100000 (x (ix2 (y 0) l)).toNat) (y 1))) * ((50⁻¹ : ℝ) : EReal) := by
  pointwise [means]
  simp only [within_apply x hx, gather_apply e x hx, select_one]
  refine (congrArg _ fifty).trans ((Ideal.div_coe (by norm_num) _).trans ?_)
  norm_num
  rfl

end Cert.Proof.Reference

end
-- ==== Proof.Equal.lean ====
/-
  The kernel's result and the reference's are the same extended reals.
-/
module

public import proofs.«01_k».proof.Defs
public import proofs.«01_k».proof.Proof.Weights
public import proofs.«01_k».proof.Proof.Refer
public import proofs.«01_k».proof.Proof.Frames

@[expose] public section

set_option maxRecDepth 16384

noncomputable section

namespace Cert.Proof

open Idealize.ShloMosaic Idealize.ShloMosaic.TcCoe Idealize.SL.Sem

/-- Scaling the first layer's weights is scaling what they multiply. -/
theorem dense_scale (c : EReal) (s1 s2 : Fin 128 → EReal) (wa wb : Fin 128 → Fin 1024 → EReal) (b1 : Fin 1024 → EReal) (w2 : Fin 1024 → Fin 512 → EReal)
    (b2 : Fin 512 → EReal) (w3 : Fin 512 → EReal) (b3 : EReal) :
    dense c s1 s2 wa wb b1 w2 b2 w3 b3 = dense 1 (fun j => s1 j * c) (fun j => s2 j * c) wa wb b1 w2 b2 w3 b3 := by
  unfold dense
  simp only [mul_one, mul_assoc, mul_comm c]

theorem dense_congr {c : EReal} {s1 s2 s1' s2' : Fin 128 → EReal} {wa wb wa' wb' : Fin 128 → Fin 1024 → EReal} {b1 b1' : Fin 1024 → EReal}
    {w2 w2' : Fin 1024 → Fin 512 → EReal} {b2 b2' : Fin 512 → EReal} {w3 w3' : Fin 512 → EReal} {b3 b3' : EReal}
    (e1 : ∀ j, s1 j = s1' j) (e2 : ∀ j, s2 j = s2' j) (e3 : ∀ j n, wa j n = wa' j n) (e4 : ∀ j n, wb j n = wb' j n) (e5 : ∀ n, b1 n = b1' n)
    (e6 : ∀ n k, w2 n k = w2' n k) (e7 : ∀ k, b2 k = b2' k) (e8 : ∀ k, w3 k = w3' k) (e9 : b3 = b3') :
    dense c s1 s2 wa wb b1 w2 b2 w3 b3 = dense c s1' s2' wa' wb' b1' w2' b2' w3' b3' := by
  obtain rfl := funext e1
  obtain rfl := funext e2
  obtain rfl := funext fun j => funext (e3 j)
  obtain rfl := funext fun j => funext (e4 j)
  obtain rfl := funext e5
  obtain rfl := funext fun n => funext (e6 n)
  obtain rfl := funext e7
  obtain rfl := funext e8
  obtain rfl := e9
  rfl

theorem means_first (m : (ℓ : Loc KernelIdeal.nD KernelIdeal.τ KernelIdeal.sig) → Buf (Elt Ideal) ℓ) (d : Dev KernelIdeal.nD)
    (h : ∀ i, (m (d, KernelIdeal.main_arg0) i).toNat < 100000) (p : Fin 4096) (j : Fin 128) :
    (fun z : EReal => z * ((50⁻¹ : ℝ) : EReal)) (KernelIdeal.V3 m d KernelIdeal.main_v5 (ix2 (n0 := 8192) (n1 := 128) ⟨p.val, by omega⟩ j))
      = Reference.means (m (d, KernelIdeal.main_arg2)) (m (d, KernelIdeal.main_arg0)) (ix2 (n0 := 4096) (n1 := 128) p j) := by
  refine Eq.trans ?_ (Reference.means_apply (m (d, KernelIdeal.main_arg2)) (m (d, KernelIdeal.main_arg0)) h (ix2 (n0 := 4096) (n1 := 128) p j)).symm
  refine congrArg (fun z : EReal => z * ((50⁻¹ : ℝ) : EReal)) ?_
  rw [KernelIdeal.V3_v5]
  exact pooled_first _ _ _ p j

theorem means_second (m : (ℓ : Loc KernelIdeal.nD KernelIdeal.τ KernelIdeal.sig) → Buf (Elt Ideal) ℓ) (d : Dev KernelIdeal.nD)
    (h : ∀ i, (m (d, KernelIdeal.main_arg1) i).toNat < 100000) (p : Fin 4096) (j : Fin 128) :
    (fun z : EReal => z * ((50⁻¹ : ℝ) : EReal)) (KernelIdeal.V3 m d KernelIdeal.main_v5 (ix2 (n0 := 8192) (n1 := 128) ⟨p.val + 4096, by omega⟩ j))
      = Reference.means (m (d, KernelIdeal.main_arg2)) (m (d, KernelIdeal.main_arg1)) (ix2 (n0 := 4096) (n1 := 128) p j) := by
  refine Eq.trans ?_ (Reference.means_apply (m (d, KernelIdeal.main_arg2)) (m (d, KernelIdeal.main_arg1)) h (ix2 (n0 := 4096) (n1 := 128) p j)).symm
  refine congrArg (fun z : EReal => z * ((50⁻¹ : ℝ) : EReal)) ?_
  rw [KernelIdeal.V3_v5]
  exact pooled_second _ _ _ p j

/-- What the kernel leaves is the reference's three layers over the reference's means. -/
theorem kernel_out (m : (ℓ : Loc KernelIdeal.nD KernelIdeal.τ KernelIdeal.sig) → Buf (Elt Ideal) ℓ) (d : Dev KernelIdeal.nD)
    (h1 : ∀ i, (m (d, KernelIdeal.main_arg0) i).toNat < 100000) (h2 : ∀ i, (m (d, KernelIdeal.main_arg1) i).toNat < 100000)
    (y : KernelIdeal.S4096x2.Idx) :
    KernelIdeal.V5 m d KernelIdeal.main_v23 y
      = Reference.layers (Reference.means (m (d, KernelIdeal.main_arg2)) (m (d, KernelIdeal.main_arg0)))
          (Reference.means (m (d, KernelIdeal.main_arg2)) (m (d, KernelIdeal.main_arg1))) (m (d, KernelIdeal.main_arg3)) (m (d, KernelIdeal.main_arg4))
          (m (d, KernelIdeal.main_arg5)) (m (d, KernelIdeal.main_arg6)) (m (d, KernelIdeal.main_arg7)) (m (d, KernelIdeal.main_arg8)) y := by
  rw [KernelIdeal.V5_v23, Reference.layers_apply]
  unfold KernelIdeal.denseOf
  rw [dense_scale]
  exact dense_congr
    (fun j => means_first m d h1 (y 0) j) (fun j => means_second m d h2 (y 0) j)
    (KernelIdeal.V3_v7 m d) (KernelIdeal.V3_v9 m d) (KernelIdeal.V3_v20 m d) (KernelIdeal.V3_v10 m d) (KernelIdeal.V3_v21 m d)
    (fun k => KernelIdeal.V3_v14 m d k (y 1)) (KernelIdeal.V3_v19 m d (y 1))

theorem algebraic : Cert.algebraic_KernelIdeal_ReferenceIdeal := by
  intro m g m' g' h hagree
  have hw := fun d => words_lt _ _ _ _ _ _ _ _ _ (h d)
  refine ⟨fun c => KernelIdeal.V5 m c KernelIdeal.main_v23, (θ_run _ _ _).mono (fun _ e c => e.1 c) (run_ideal m g h), ?_⟩
  refine (θ_run Cert.ReferenceIdeal.defs _ _).mono (fun r e c => ⟨(e c).1.trans ?_, (e c).2⟩) (Cert.ReferenceIdeal.Value.run (F := Ideal) m' g')
  obtain ⟨a0, a1, a2, a3, a4, a5, a6, a7, a8⟩ := hagree c
  rw [Reference.res_eq, a0, a1, a2, a3, a4, a5, a6, a7, a8]
  exact (funext fun y => kernel_out m c (hw c).1 (hw c).2 y).symm

end Cert.Proof

end
-- ==== Proof.lean ====
/-
  The claims, put together.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_vocab
public import proofs.«01_k».proof.Proof.Frames
public import proofs.«01_k».proof.Proof.Equal

@[expose] public section

noncomputable section

namespace Cert.Proof

theorem claim : Cert.Claim :=
  ⟨Cert.Kernel.Gen.facts, Cert.KernelIdeal.Gen.facts, Cert.ReferenceIdeal.Gen.facts, Cert.Pre_in_vocab.Gen.facts,
    frame_kernel, frame_ideal, frame_reference, fun m ρ _ => frame_reference m ρ trivial, preserves_named, algebraic⟩

end Cert.Proof

end
